-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x640x1536 : Shape := ⟨3, ![32, 640, 1536]⟩
abbrev S8960x1536 : Shape := ⟨2, ![8960, 1536]⟩
abbrev S8960 : Shape := ⟨1, ![8960]⟩
abbrev S20x12 : Shape := ⟨2, ![20, 12]⟩
abbrev S448x128 : Shape := ⟨2, ![448, 128]⟩
abbrev S_ : Shape := ⟨0, ![]⟩

class Facts : Prop where
  bcast_S_S32x640x1536 : S_.BroadcastsInDim S32x640x1536 (![] : Fin 0 → Fin S32x640x1536.rank)

variable [Facts]

def fn {F : FTy → Type} [FloatOps F] (main_arg0 : FVec F S32x640x1536 .bf16) (main_arg1 : FVec F S8960x1536 .fp8e4m3) (main_arg2 : FVec F S8960 .f32) (main_arg3 : FVec F S20x12 .bf16) (main_arg4 : FVec F S448x128 .bf16) : IVec S32x640x1536 1 :=
  let main_v0 : FVec F S32x640x1536 .bf16 := Host.absf main_arg0
  let main_cst : FVec F S_ .bf16 := constant S_ .bf16 0x7F7F#16
  let main_v1 : FVec F S32x640x1536 .bf16 := broadcastInDim S32x640x1536 ![] bcast_S_S32x640x1536 main_cst
  let main_v2 : IVec S32x640x1536 1 := cmpf .ole main_v0 main_v1
  main_v2
-- ==== Kernel.lean ====
abbrev S32x640x1536 : Shape := ⟨3, ![32, 640, 1536]⟩
abbrev S8960x1536 : Shape := ⟨2, ![8960, 1536]⟩
abbrev S8960 : Shape := ⟨1, ![8960]⟩
abbrev S20x12 : Shape := ⟨2, ![20, 12]⟩
abbrev S448x128 : Shape := ⟨2, ![448, 128]⟩
abbrev S20480x1536 : Shape := ⟨2, ![20480, 1536]⟩
abbrev S1x8960 : Shape := ⟨2, ![1, 8960]⟩
abbrev S20480x8960 : Shape := ⟨2, ![20480, 8960]⟩
abbrev S32x640 : Shape := ⟨2, ![32, 640]⟩
abbrev S256x1536 : Shape := ⟨2, ![256, 1536]⟩
abbrev S256x8960 : Shape := ⟨2, ![256, 8960]⟩
abbrev S160x128 : Shape := ⟨2, ![160, 128]⟩
abbrev S320x192 : Shape := ⟨2, ![320, 192]⟩
abbrev S128x512 : Shape := ⟨2, ![128, 512]⟩
abbrev S12x256x512 : Shape := ⟨3, ![12, 256, 512]⟩
abbrev S320x20 : Shape := ⟨2, ![320, 20]⟩
abbrev S12x192 : Shape := ⟨2, ![12, 192]⟩
abbrev S320x12 : Shape := ⟨2, ![320, 12]⟩
abbrev S128x448 : Shape := ⟨2, ![128, 448]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S1x128 : Shape := ⟨2, ![1, 128]⟩
abbrev S32x128 : Shape := ⟨2, ![32, 128]⟩
abbrev S256x512 : Shape := ⟨2, ![256, 512]⟩
abbrev S1x256x512 : Shape := ⟨3, ![1, 256, 512]⟩
abbrev S12x16x512 : Shape := ⟨3, ![12, 16, 512]⟩
abbrev S192x512 : Shape := ⟨2, ![192, 512]⟩
abbrev S160x192 : Shape := ⟨2, ![160, 192]⟩
abbrev S160x512 : Shape := ⟨2, ![160, 512]⟩
abbrev S10x16x512 : Shape := ⟨3, ![10, 16, 512]⟩
abbrev S1x16x384 : Shape := ⟨3, ![1, 16, 384]⟩
abbrev S16x384 : Shape := ⟨2, ![16, 384]⟩
abbrev S1x16x128 : Shape := ⟨3, ![1, 16, 128]⟩
abbrev S16x128 : Shape := ⟨2, ![16, 128]⟩
abbrev S256x256 : Shape := ⟨2, ![256, 256]⟩

abbrev nBuf : Space → Nat
  | .hbm => 10
  | .vmem => 17
  | .smem => 0
  | _ => 0

abbrev bufTy : (tb : Table) → Fin (tcTables nBuf tb) → BufTy
  | .hbm, ⟨0, _⟩ => ⟨S32x640x1536, .bf16⟩
  | .hbm, ⟨1, _⟩ => ⟨S8960x1536, .fp8e4m3⟩
  | .hbm, ⟨2, _⟩ => ⟨S8960, .f32⟩
  | .hbm, ⟨3, _⟩ => ⟨S20x12, .bf16⟩
  | .hbm, ⟨4, _⟩ => ⟨S448x128, .bf16⟩
  | .hbm, ⟨5, _⟩ => ⟨S20480x1536, .bf16⟩
  | .hbm, ⟨6, _⟩ => ⟨S1x8960, .f32⟩
  | .hbm, ⟨7, _⟩ => ⟨S20480x8960, .bf16⟩
  | .hbm, ⟨8, _⟩ => ⟨S20480x1536, .fp8e4m3⟩
  | .hbm, ⟨9, _⟩ => ⟨S32x640, .f32⟩
  | .local _ .vmem, ⟨0, _⟩ => ⟨S256x1536, .bf16⟩
  | .local _ .vmem, ⟨1, _⟩ => ⟨S256x1536, .bf16⟩
  | .local _ .vmem, ⟨2, _⟩ => ⟨S8960x1536, .fp8e4m3⟩
  | .local _ .vmem, ⟨3, _⟩ => ⟨S1x8960, .f32⟩
  | .local _ .vmem, ⟨4, _⟩ => ⟨S20x12, .bf16⟩
  | .local _ .vmem, ⟨5, _⟩ => ⟨S448x128, .bf16⟩
  | .local _ .vmem, ⟨6, _⟩ => ⟨S256x8960, .bf16⟩
  | .local _ .vmem, ⟨7, _⟩ => ⟨S256x8960, .bf16⟩
  | .local _ .vmem, ⟨8, _⟩ => ⟨S256x1536, .fp8e4m3⟩
  | .local _ .vmem, ⟨9, _⟩ => ⟨S256x1536, .fp8e4m3⟩
  | .local _ .vmem, ⟨10, _⟩ => ⟨S32x640, .f32⟩
  | .local _ .vmem, ⟨11, _⟩ => ⟨S160x128, .f32⟩
  | .local _ .vmem, ⟨12, _⟩ => ⟨S320x192, .bf16⟩
  | .local _ .vmem, ⟨13, _⟩ => ⟨S128x512, .bf16⟩
  | .local _ .vmem, ⟨14, _⟩ => ⟨S12x256x512, .bf16⟩
  | .local _ .vmem, ⟨15, _⟩ => ⟨S12x256x512, .bf16⟩
  | .local _ .vmem, ⟨16, _⟩ => ⟨S256x8960, .f32⟩
  | _, _ => ⟨S32x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![80], ![false]⟩

def k0_off1 (i : grid0.Coords) (c0_i32_29 : BitVec 32) : Fin 2 → Nat :=
  let arg0 : BitVec 32 := BitVec.ofNat 32 (i 0).val
  let c2_i32_28 : BitVec 32 := 2#32
  let v116 : BitVec 32 := Scalar.muli arg0 c2_i32_28
  let v117 : BitVec 32 := Scalar.addi v116 c0_i32_29
  let v118 : Index := Scalar.indexCast v117
  let c0_30 : Index := 0#32
  ![v118.toNat, 0]
def k0_cond2 (i : grid0.Coords) : BitVec 1 :=
  let arg0 : BitVec 32 := BitVec.ofNat 32 (i 0).val
  let c79_i32 : BitVec 32 := 79#32
  let v129 : BitVec 1 := Scalar.cmpi .eq arg0 c79_i32
  let v130 : BitVec 32 := Scalar.extui v129
  let c0_i32_34 : BitVec 32 := 0#32
  let v131 : BitVec 1 := Scalar.cmpi .ne v130 c0_i32_34
  v131

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8960x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x12 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S448x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8960 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S32x640x1536 : Shape := ⟨3, ![32, 640, 1536]⟩
abbrev S8960x1536 : Shape := ⟨2, ![8960, 1536]⟩
abbrev S8960 : Shape := ⟨1, ![8960]⟩
abbrev S20x12 : Shape := ⟨2, ![20, 12]⟩
abbrev S448x128 : Shape := ⟨2, ![448, 128]⟩
abbrev S20480x8960 : Shape := ⟨2, ![20480, 8960]⟩
abbrev S20480x1536 : Shape := ⟨2, ![20480, 1536]⟩
abbrev S32x640 : Shape := ⟨2, ![32, 640]⟩
abbrev S32x640x1 : Shape := ⟨3, ![32, 640, 1]⟩
abbrev S32x640x8960 : Shape := ⟨3, ![32, 640, 8960]⟩
abbrev S1x1x8960 : Shape := ⟨3, ![1, 1, 8960]⟩
abbrev S32x640x12x128 : Shape := ⟨4, ![32, 640, 12, 128]⟩
abbrev S32x640x12x448 : Shape := ⟨4, ![32, 640, 12, 448]⟩
abbrev S32x640x448x20 : Shape := ⟨4, ![32, 640, 448, 20]⟩
abbrev S32x640x20x448 : Shape := ⟨4, ![32, 640, 20, 448]⟩

abbrev nBuf : Space → Nat
  | .hbm => 8
  | .vmem => 8
  | .smem => 0
  | _ => 0

abbrev bufTy : (tb : Table) → Fin (tcTables nBuf tb) → BufTy
  | .hbm, ⟨0, _⟩ => ⟨S32x640x1536, .bf16⟩
  | .hbm, ⟨1, _⟩ => ⟨S8960x1536, .fp8e4m3⟩
  | .hbm, ⟨2, _⟩ => ⟨S8960, .f32⟩
  | .hbm, ⟨3, _⟩ => ⟨S20x12, .bf16⟩
  | .hbm, ⟨4, _⟩ => ⟨S448x128, .bf16⟩
  | .hbm, ⟨5, _⟩ => ⟨S20480x8960, .bf16⟩
  | .hbm, ⟨6, _⟩ => ⟨S20480x1536, .fp8e4m3⟩
  | .hbm, ⟨7, _⟩ => ⟨S32x640, .f32⟩
  | .local _ .vmem, ⟨0, _⟩ => ⟨S32x640x1536, .bf16⟩
  | .local _ .vmem, ⟨1, _⟩ => ⟨S8960x1536, .fp8e4m3⟩
  | .local _ .vmem, ⟨2, _⟩ => ⟨S8960, .f32⟩
  | .local _ .vmem, ⟨3, _⟩ => ⟨S20x12, .bf16⟩
  | .local _ .vmem, ⟨4, _⟩ => ⟨S448x128, .bf16⟩
  | .local _ .vmem, ⟨5, _⟩ => ⟨S20480x8960, .bf16⟩
  | .local _ .vmem, ⟨6, _⟩ => ⟨S20480x1536, .fp8e4m3⟩
  | .local _ .vmem, ⟨7, _⟩ => ⟨S32x640, .f32⟩
  | _, _ => ⟨S32x640x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x640x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8960x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8960 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S20x12 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S448x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S20480x8960 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S20480x1536 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KFrame.Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 80 = 0 :=
  (fun t => by
    have ht : t.val < 80 := Nat.lt_of_lt_of_eq t.isLt N_0
    have e0 : (grid0.coords t 0).val = t.val / 1 % 80 := Pipeline.Grid.coords_val t 0 (by decide) rfl
    simp only [cond0_0, e0]
    word_cmp
   : ∀ t : Fin grid0.N, cond0_0 (grid0.coords t) ↔ t.val % 80 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 80 = 79 :=
  (fun t => by
    have ht : t.val < 80 := Nat.lt_of_lt_of_eq t.isLt N_0
    have e0 : (grid0.coords t 0).val = t.val / 1 % 80 := Pipeline.Grid.coords_val t 0 (by decide) rfl
    simp only [cond0_1, k0_cond2, e0]
    word_cmp
   : ∀ t : Fin grid0.N, cond0_1 (grid0.coords t) ↔ t.val % 80 = 79)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8960x1536 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8960 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x12 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S448x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8960 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x640 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S160x128 .f32 := Memref.whole cc0_scratch0
abbrev scM0_1 : Memref sig .tc .vmem S320x192 .bf16 := Memref.whole cc0_scratch1
abbrev scM0_2 : Memref sig .tc .vmem S128x512 .bf16 := Memref.whole cc0_scratch2
abbrev scM0_3 : Memref sig .tc .vmem S12x256x512 .bf16 := Memref.whole cc0_scratch3
abbrev scM0_4 : Memref sig .tc .vmem S12x256x512 .bf16 := Memref.whole cc0_scratch4
abbrev scM0_5 : Memref sig .tc .vmem S256x8960 .f32 := Memref.whole cc0_scratch5
/-- The scratch `arg10` the kernel carries between points, as a view: what it holds is stated through it. -/
abbrev VS0_1 : View sig .tc .vmem S320x192 .bf16 := scM0_1.view
/-- The scratch `arg11` the kernel carries between points, as a view: what it holds is stated through it. -/
abbrev VS0_2 : View sig .tc .vmem S128x512 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KFrame

end
-- ==== Proof.KFrame.RunA.lean ====
module

public import proofs.«01_k».proof.Proof.KFrame.Runs

@[expose] public section

set_option maxRecDepth 16384

noncomputable section

namespace Cert.KFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8044000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7) at anything, handed back at some contents nothing names. -/
noncomputable def kernelRun0_A (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) :
    Σ' (LS1 : List (View.Piece (Elt F) S320x192 .bf16)), { LS2 : List (View.Piece (Elt F) S128x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_fp8_lokr i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_fp8_lokr_eq_skeleton]; unfold cc0_fp8_lokr_skel
    simp only [k0_part102_eq_skeleton, k0_part4_eq_skeleton, k0_part3_eq_skeleton, k0_part1_eq_skeleton, k0_part2_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KFrame

end
-- ==== Proof.KFrame.RunB.lean ====
module

public import proofs.«01_k».proof.Proof.KFrame.RunA

@[expose] public section

set_option maxRecDepth 16384

noncomputable section

namespace Cert.KFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7972000 in
/-- What the body's stores leave in each output's staging memref, as pieces (last first) IN CASE B (`scf.if` 0 not taken, `scf.if` 1 not taken: points 1, 2, … 78: 78 of 80), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7) at anything, handed back at some contents nothing names. -/
noncomputable def kernelRun0_B (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (xs1 : Vec F S320x192 .bf16) (xs2 : Vec F S128x512 .bf16) :
    Σ' (LS1 : List (View.Piece (Elt F) S320x192 .bf16)), { LS2 : List (View.Piece (Elt F) S128x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_fp8_lokr i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], fun E K => ?run⟩
  case run =>
    simp only [cc0_fp8_lokr_eq_skeleton]; unfold cc0_fp8_lokr_skel
    simp only [k0_part102_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    isplitl [HS2]
    · iexists _; isplitr; · ipureintro; exact harg11.read_unread _
      iexact HS2
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KFrame

end
-- ==== Proof.KFrame.RunC.lean ====
module

public import proofs.«01_k».proof.Proof.KFrame.RunB

@[expose] public section

set_option maxRecDepth 16384

noncomputable section

namespace Cert.KFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8032000 in
/-- What the body's stores leave in each output's staging memref, as pieces (last first) IN CASE C (`scf.if` 0 not taken, `scf.if` 1 taken: points 79), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (5, 6, 7) at anything, handed back at some contents nothing names. -/
noncomputable def kernelRun0_C (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : cond0_1 i)
    (x0 : Vec F S256x1536 .bf16) (x1 : Vec F S8960x1536 .fp8e4m3) (x2 : Vec F S1x8960 .f32) (x3 : Vec F S20x12 .bf16) (x4 : Vec F S448x128 .bf16) (xs1 : Vec F S320x192 .bf16) (xs2 : Vec F S128x512 .bf16) :
    Σ' (LS1 : List (View.Piece (Elt F) S320x192 .bf16)), { LS2 : List (View.Piece (Elt F) S128x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_fp8_lokr i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨[], [], fun E K => ?run⟩
  case run =>
    simp only [cc0_fp8_lokr_eq_skeleton]; unfold cc0_fp8_lokr_skel
    simp only [k0_part102_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hfs1, HS1⟩, ⟨%fs2, %hfs2, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _; isplitr; · ipureintro; exact harg10.read_unread _
      iexact HS1
    isplitl [HS2]
    · iexists _; isplitr; · ipureintro; exact harg11.read_unread _
      iexact HS2
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KFrame

end
-- ==== Proof.KFrame.Frame.lean ====
module

public import proofs.«01_k».proof.Proof.KFrame.RunC
public import Idealize.ShloMosaic.Lib.Claim

@[expose] public section

set_option maxRecDepth 16384

noncomputable section

namespace Cert.KFrame

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 1 piece of `S320x192` tiling it (Lib/Ring.lean `Piece.tiledL`). -/
theorem scover0_A_1 (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (y : S320x192.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1 S320x192.size (by sl_kernel_rfl) y

/-- What case A leaves in scratch `arg10`: its pieces read back over junk. -/
def sout0_A_1 (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) : Vec F S320x192 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).1)

/-- Case A's pieces for scratch `arg11`, which the kernel carries between points, cover it: one of them a store of the WHOLE buffer (Lib/Ring.lean `sl_whole_mem`). -/
theorem scover0_A_2 (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1 (by sl_whole_mem) y

/-- What case A leaves in scratch `arg11`: its pieces read back over junk. -/
def sout0_A_2 (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) : Vec F S128x512 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4).2.1)

/-- Case B stores nothing into scratch `arg10`: it holds what the point before left. -/
def sout0_B_1 (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (xs1 : Vec F S320x192 .bf16) (xs2 : Vec F S128x512 .bf16) : Vec F S320x192 .bf16 := xs1

/-- Case B stores nothing into scratch `arg11`: it holds what the point before left. -/
def sout0_B_2 (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (xs1 : Vec F S320x192 .bf16) (xs2 : Vec F S128x512 .bf16) : Vec F S128x512 .bf16 := xs2

/-- Case C stores nothing into scratch `arg10`: it holds what the point before left. -/
def sout0_C_1 (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : cond0_1 i)
    (x0 : Vec F S256x1536 .bf16) (x1 : Vec F S8960x1536 .fp8e4m3) (x2 : Vec F S1x8960 .f32) (x3 : Vec F S20x12 .bf16) (x4 : Vec F S448x128 .bf16) (xs1 : Vec F S320x192 .bf16) (xs2 : Vec F S128x512 .bf16) : Vec F S320x192 .bf16 := xs1

/-- Case C stores nothing into scratch `arg11`: it holds what the point before left. -/
def sout0_C_2 (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : cond0_1 i)
    (x0 : Vec F S256x1536 .bf16) (x1 : Vec F S8960x1536 .fp8e4m3) (x2 : Vec F S1x8960 .f32) (x3 : Vec F S20x12 .bf16) (x4 : Vec F S448x128 .bf16) (xs1 : Vec F S320x192 .bf16) (xs2 : Vec F S128x512 .bf16) : Vec F S128x512 .bf16 := xs2

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S320x192 .bf16 × Vec F S128x512 .bf16
  | 0, hn => (sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 80 = 0 then
      if h1 : (n + 1) % 80 = 79 then
        False.elim (by have hN : n + 1 < 80 := lt_of_lt_of_eq hn (show cfg0.N = 80 from N_0); omega)
      else
        (sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 80 = 79 then
        (sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)
      else
        (sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2)

/-- `outsAt0` at a point of case A: that case's contents. -/
theorem outsAt0_A (c : Dev nD) (t : Fin cfg0.N) (h0 : t.val % 80 = 0) (h1 : ¬t.val % 80 = 79) :
    outsAt0 m c t.val t.isLt = (sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 80 = 0) (h1 : ¬t.val % 80 = 79) :
    outsAt0 m c t.val t.isLt = (sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 80 = 0) (h1 : t.val % 80 = 79) :
    outsAt0 m c t.val t.isLt = (sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).1) ∗ owns (c : Thread nD τ) scM0_2 fullShare ((outsAt0 m c n hn).2) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).1) ∗ owns (c : Thread nD τ) scM0_2 fullShare ((outsAt0 m c (n - 1) (by omega)).2) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

/-- The output windows this certificate FORGETS (5, 6, 7): nothing reads what the kernel leaves in them, so nothing
    of it is named (Lib/Pipeline/Dat.lean `Dat.toRForget`). -/
def forgets0 : Fin 8 → Bool := fun w => w.val == 5 || w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 80 := lt_of_lt_of_eq t.isLt (show cfg0.N = 80 from N_0)
  by_cases h0 : t.val % 80 = 0
  · by_cases h1 : t.val % 80 = 79
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · rw [PhiS_castSucc m c t, PhiS_zero m c _ _ hz, PhiA0_eq]
        rw [outsAt0_A m c t h0 h1]
        unfold sout0_A_1 sout0_A_2; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, HS0, ⟨%es1, HS1⟩, ⟨%es2, HS2⟩, HS3, HS4, HS5⟩
        isplitl [HS0 HS1 HS2 HS3 HS4 HS5 Hg]
        · isplitl [HS0 HS1 HS2 HS3 HS4 HS5]
          · isplitl [HS0]
            · iexact HS0
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _)
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · exfalso; have hN : t.val < 80 := lt_of_lt_of_eq t.isLt (show cfg0.N = 80 from N_0); omega
  · by_cases h1 : t.val % 80 = 79
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 80 := lt_of_lt_of_eq t.isLt (show cfg0.N = 80 from N_0); omega
      · rw [PhiS_castSucc m c t, PhiS_pos m c _ _ hz]
        rw [outsAt0_C m c t h0 h1]
        unfold sout0_C_1 sout0_C_2; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, HS0, HS1, HS2, HS3, HS4, HS5⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      by_cases hz : t.val = 0
      · exfalso; have hN : t.val < 80 := lt_of_lt_of_eq t.isLt (show cfg0.N = 80 from N_0); omega
      · rw [PhiS_castSucc m c t, PhiS_pos m c _ _ hz]
        rw [outsAt0_B m c t h0 h1]
        unfold sout0_B_1 sout0_B_2; (try dsimp only)
        iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, HS0, HS1, HS2, HS3, HS4, HS5⟩
        isplitl [HS0 HS1 HS2 HS3 HS4 HS5 Hg]
        · isplitl [HS0 HS1 HS2 HS3 HS4 HS5]
          · isplitl [HS0]
            · iexact HS0
            isplitl [HS1]
            · iexact HS1
            isplitl [HS2]
            · iexact HS2
            isplitl [HS3]
            · iexact HS3
            isplitl [HS4]
            · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexists _; iexact HS1
    isplitl [HS2]
    · iexists _; iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 80 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 5, 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `Cert.KFrame.frame`, below. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KFrame

end
-- ==== Proof.Body.Base.lean ====
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 80 = 0 :=
  (fun t => by
    have ht : t.val < 80 := Nat.lt_of_lt_of_eq t.isLt N_0
    have e0 : (grid0.coords t 0).val = t.val / 1 % 80 := Pipeline.Grid.coords_val t 0 (by decide) rfl
    simp only [cond0_0, e0]
    word_cmp
   : ∀ t : Fin grid0.N, cond0_0 (grid0.coords t) ↔ t.val % 80 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 80 = 79 :=
  (fun t => by
    have ht : t.val < 80 := Nat.lt_of_lt_of_eq t.isLt N_0
    have e0 : (grid0.coords t 0).val = t.val / 1 % 80 := Pipeline.Grid.coords_val t 0 (by decide) rfl
    simp only [cond0_1, k0_cond2, e0]
    word_cmp
   : ∀ t : Fin grid0.N, cond0_1 (grid0.coords t) ↔ t.val % 80 = 79)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8960x1536 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8960 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S20x12 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S448x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x8960 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1536 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x640 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S160x128 .f32 := Memref.whole cc0_scratch0
abbrev scM0_1 : Memref sig .tc .vmem S320x192 .bf16 := Memref.whole cc0_scratch1
abbrev scM0_2 : Memref sig .tc .vmem S128x512 .bf16 := Memref.whole cc0_scratch2
abbrev scM0_3 : Memref sig .tc .vmem S12x256x512 .bf16 := Memref.whole cc0_scratch3
abbrev scM0_4 : Memref sig .tc .vmem S12x256x512 .bf16 := Memref.whole cc0_scratch4
abbrev scM0_5 : Memref sig .tc .vmem S256x8960 .f32 := Memref.whole cc0_scratch5
/-- The scratch `arg10` the kernel carries between points, as a view: what it holds is stated through it. -/
abbrev VS0_1 : View sig .tc .vmem S320x192 .bf16 := scM0_1.view
/-- The scratch `arg11` the kernel carries between points, as a view: what it holds is stated through it. -/
abbrev VS0_2 : View sig .tc .vmem S128x512 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Body

end
-- ==== Proof.Body.Lists.lean ====
module

public import proofs.«01_k».proof.Proof.Body.Base

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces of one call, as lists over their position -/

/-- The codes of the block `X`, as the body computes them. -/
def codesV (X : Vec F S256x1536 .bf16) : FVec F S256x1536 .fp8e4m3 :=
  k0_pay21 (k0_pay13 X) (k0_pay17 (k0_pay14 X) (k0_pay15 X) (k0_pay16 X)) (k0_pay18 (k0_pay14 X) (k0_pay15 X) (k0_pay16 X))

/-- The scales of the block `X`, as the body computes them. -/
def scaleV (X : Vec F S256x1536 .bf16) : FVec F S256x1 .f32 :=
  k0_pay20 (k0_pay17 (k0_pay14 X) (k0_pay15 X) (k0_pay16 X)) (k0_pay18 (k0_pay14 X) (k0_pay15 X) (k0_pay16 X))

/-- The first row of 128 scales of the block. -/
def scaleRow0 (X : Vec F S256x1536 .bf16) : FVec F S1x128 .f32 :=
  k0_pay23 (k0_pay17 (k0_pay14 X) (k0_pay15 X) (k0_pay16 X)) (k0_pay18 (k0_pay14 X) (k0_pay15 X) (k0_pay16 X))

/-- The second row of 128 scales of the block. -/
def scaleRow1 (X : Vec F S256x1536 .bf16) : FVec F S1x128 .f32 :=
  k0_pay25 (k0_pay24 (k0_pay17 (k0_pay14 X) (k0_pay15 X) (k0_pay16 X)) (k0_pay18 (k0_pay14 X) (k0_pay15 X) (k0_pay16 X)))

theorem slices_codes (p : Fin 12) : S256x1536.Slices ![0, 128 * p.val] S256x128 := by revert p; decide
theorem inb_T (p : Fin 12) : ∀ a : Fin S12x256x512.rank, (![p.val, 0, 0] : Fin 3 → ℕ) a + S1x256x512.size a ≤ S12x256x512.size a := by revert p; decide
theorem inb_Tr (g : Fin 16) : ∀ a : Fin S12x256x512.rank, (![0, 16 * g.val, 0] : Fin 3 → ℕ) a + S12x16x512.size a ≤ S12x256x512.size a := by revert g; decide
theorem inb_Ua (g : Fin 16) (b : Fin 10) : ∀ a : Fin S256x8960.rank, (![16 * g.val, 896 * b.val] : Fin 2 → ℕ) a + S16x384.size a ≤ S256x8960.size a := by revert g b; decide
theorem inb_Ub (g : Fin 16) (b : Fin 10) : ∀ a : Fin S256x8960.rank, (![16 * g.val, 896 * b.val + 384] : Fin 2 → ℕ) a + S16x128.size a ≤ S256x8960.size a := by revert g b; decide
theorem inb_Uc (g : Fin 16) (b : Fin 10) : ∀ a : Fin S256x8960.rank, (![16 * g.val, 896 * b.val + 512] : Fin 2 → ℕ) a + S16x384.size a ≤ S256x8960.size a := by revert g b; decide
theorem inb_Y (j : Fin 35) : ∀ a : Fin S256x8960.rank, (![0, 256 * j.val] : Fin 2 → ℕ) a + S256x256.size a ≤ S256x8960.size a := by revert j; decide
theorem inb_W (j : Fin 35) : ∀ a : Fin S8960x1536.rank, (![256 * j.val, 0] : Fin 2 → ℕ) a + S256x1536.size a ≤ S8960x1536.size a := by revert j; decide
theorem inb_WS (j : Fin 35) : ∀ a : Fin S1x8960.rank, (![0, 256 * j.val] : Fin 2 → ℕ) a + S1x256.size a ≤ S1x8960.size a := by revert j; decide
theorem slices_Ua (b : Fin 10) : S10x16x512.Slices ![b.val, 0, 0] S1x16x384 := by revert b; decide
theorem slices_Ub (b : Fin 10) : S10x16x512.Slices ![b.val, 0, 384] S1x16x128 := by revert b; decide
theorem slices_Ub' (b : Fin 10) : S10x16x512.Slices ![b.val, 0, 0] S1x16x128 := by revert b; decide
theorem slices_Uc (b : Fin 10) : S10x16x512.Slices ![b.val, 0, 128] S1x16x384 := by revert b; decide

/-- The adapter's first product for the twelfth `p` of the columns: the codes of these columns times the padded
    transpose of `d`. -/
def tV (codes : FVec F S256x1536 .fp8e4m3) (D : Vec F S128x512 .bf16) (p : Fin 12) : FVec F S256x512 .bf16 :=
  truncf .bf16 (matmul dot_S256x128_S128x512_S256x512_1_0_0_1_n_n none
    (extf .bf16 (extractStridedSlice S256x128 ![0, 128 * p.val] codes (slices_codes p)) bitsLt_fp8e4m3_bf16) D
    (constant S256x512 .f32 0x00000000#32)) bitsLt_bf16_f32

/-- The pieces written into the first products' scratch. -/
def TList (codes : FVec F S256x1536 .fp8e4m3) (D : Vec F S128x512 .bf16) : List (View.Piece (Elt F) S12x256x512 .bf16) :=
  List.map (fun p : Fin 12 => ⟨Rect.unit ![p.val, 0, 0] S1x256x512.size (inb_T p), shapeCast S1x256x512 (tV codes D p) shapeCasts_S256x512_S1x256x512⟩)
    [11, 10, 9, 8, 7, 6, 5, 4, 3, 2, 1, 0]

/-- The pieces written into the scratch of the first products rolled by 64 columns. -/
def T2List (codes : FVec F S256x1536 .fp8e4m3) (D : Vec F S128x512 .bf16) : List (View.Piece (Elt F) S12x256x512 .bf16) :=
  List.map (fun p : Fin 12 => ⟨Rect.unit ![p.val, 0, 0] S1x256x512.size (inb_T p),
      shapeCast S1x256x512 (dynamicRotate 1 64#32 none (tV codes D p) rotates_S256x512_d1) shapeCasts_S256x512_S1x256x512⟩)
    [11, 10, 9, 8, 7, 6, 5, 4, 3, 2, 1, 0]

/-- The second product for sixteen rows. -/
def uV (te : Vec F S12x16x512 .bf16) (ke : Vec F S160x192 .bf16) : FVec F S10x16x512 .f32 :=
  shapeCast S10x16x512 (matmul dot_S160x192_S192x512_S160x512_1_0_0_1_n_n none ke
    (shapeCast S192x512 te shapeCasts_S12x16x512_S192x512) (constant S160x512 .f32 0x00000000#32)) shapeCasts_S160x512_S10x16x512

/-- The three pieces of one pair of column blocks for sixteen rows. -/
def UTri (ue uo : FVec F S10x16x512 .f32) (g : Fin 16) (b : Fin 10) : List (View.Piece (Elt F) S256x8960 .f32) :=
  [⟨Rect.unit ![16 * g.val, 896 * b.val + 512] S16x384.size (inb_Uc g b),
      shapeCast S16x384 (shapeCast S16x384 (extractStridedSlice S1x16x384 ![b.val, 0, 128] uo (slices_Uc b)) shapeCasts_S1x16x384_S16x384) shapeCasts_S16x384_S16x384⟩,
   ⟨Rect.unit ![16 * g.val, 896 * b.val + 384] S16x128.size (inb_Ub g b),
      shapeCast S16x128 (addf (shapeCast S16x128 (extractStridedSlice S1x16x128 ![b.val, 0, 384] ue (slices_Ub b)) shapeCasts_S1x16x128_S16x128)
        (shapeCast S16x128 (extractStridedSlice S1x16x128 ![b.val, 0, 0] uo (slices_Ub' b)) shapeCasts_S1x16x128_S16x128)) shapeCasts_S16x128_S16x128⟩,
   ⟨Rect.unit ![16 * g.val, 896 * b.val] S16x384.size (inb_Ua g b),
      shapeCast S16x384 (shapeCast S16x384 (extractStridedSlice S1x16x384 ![b.val, 0, 0] ue (slices_Ua b)) shapeCasts_S1x16x384_S16x384) shapeCasts_S16x384_S16x384⟩]

/-- The pieces written into the adapter's scratch. -/
def UList (te tf : Fin 16 → Vec F S12x16x512 .bf16) (ke ko : Vec F S160x192 .bf16) : List (View.Piece (Elt F) S256x8960 .f32) :=
  List.flatMap (fun g : Fin 16 => List.flatMap (fun b : Fin 10 => UTri (uV (te g) ke) (uV (tf g) ko) g b) [9, 8, 7, 6, 5, 4, 3, 2, 1, 0])
    [15, 14, 13, 12, 11, 10, 9, 8, 7, 6, 5, 4, 3, 2, 1, 0]

/-- One tile of `y`: the product with the codes of the weights, scaled, and the adapter's part. -/
def yV (codes : FVec F S256x1536 .fp8e4m3) (scale : FVec F S256x1 .f32) (w : Vec F S256x1536 .fp8e4m3) (ws : Vec F S1x256 .f32) (u : Vec F S256x256 .f32) :
    FVec F S256x256 .bf16 :=
  k0_pay1 scale (matmul dot_S256x1536_S256x1536_S256x256_1_1_0_0_n_n none codes w (constant S256x256 .f32 0x00000000#32)) ws u

/-- The pieces written into the block of `y`. -/
def YList (codes : FVec F S256x1536 .fp8e4m3) (scale : FVec F S256x1 .f32) (w : Fin 35 → Vec F S256x1536 .fp8e4m3) (ws : Fin 35 → Vec F S1x256 .f32)
    (u : Fin 35 → Vec F S256x256 .f32) : List (View.Piece (Elt F) S256x8960 .bf16) :=
  List.map (fun j : Fin 35 => ⟨Rect.unit ![0, 256 * j.val] S256x256.size (inb_Y j), yV codes scale (w j) (ws j) (u j)⟩)
    [34, 33, 32, 31, 30, 29, 28, 27, 26, 25, 24, 23, 22, 21, 20, 19, 18, 17, 16, 15, 14, 13, 12, 11, 10, 9, 8, 7, 6, 5, 4, 3, 2, 1, 0]

/-- The pieces of `y` of one call, from what the memory holds. -/
def YAll (arg2 : Memref sig .tc .vmem S8960x1536 .fp8e4m3) (arg3 : Memref sig .tc .vmem S1x8960 .f32)
    (arg12 : Memref sig .tc .vmem S12x256x512 .bf16) (arg13 : Memref sig .tc .vmem S12x256x512 .bf16) (arg14 : Memref sig .tc .vmem S256x8960 .f32)
    (X : Vec F S256x1536 .bf16) (m2 : arg2.view.ty.Contents (Elt F)) (m3 : arg3.view.ty.Contents (Elt F)) (D : Vec F S128x512 .bf16) (ke ko : Vec F S160x192 .bf16) :
    List (View.Piece (Elt F) S256x8960 .bf16) :=
  YList (codesV X) (scaleV X) (fun j => View.readAt (Elt F) arg2.view (Rect.unit (s := S8960x1536) ![256 * j.val, 0] S256x1536.size (inb_W j)).toLoadRect m2)
    (fun j => View.readAt (Elt F) arg3.view (Rect.unit (s := S1x8960) ![0, 256 * j.val] S1x256.size (inb_WS j)).toLoadRect m3)
    (fun j => arg14.view.readCov (UList
      (fun g => arg12.view.readCov (TList (codesV X) D) (Rect.unit (s := S12x256x512) ![0, 16 * g.val, 0] S12x16x512.size (inb_Tr g)).toLoadRect)
      (fun g => arg13.view.readCov (T2List (codesV X) D) (Rect.unit (s := S12x256x512) ![0, 16 * g.val, 0] S12x16x512.size (inb_Tr g)).toLoadRect) ke ko)
      (Rect.unit (s := S256x8960) ![0, 256 * j.val] S256x256.size (inb_Y j)).toLoadRect)

/-- The two rows of scales written at a grid point. -/
def SList (i : grid0.Coords) (X : Vec F S256x1536 .bf16) : List (View.Piece (Elt F) S160x128 .f32) :=
  [⟨Rect.unit (k0_off1 i 1#32) S1x128.size (k0_off1_inb i 1), scaleRow1 X⟩,
   ⟨Rect.unit (k0_off1 i 0#32) S1x128.size (k0_off1_inb i 0), scaleRow0 X⟩]

/-- The Kronecker factor, as the first call computes it from `c`. -/
def kronV (C : Vec F S20x12 .bf16) : FVec F S320x192 .bf16 :=
  k0_pay10 (k0_pay6 k0_pay2 (iota .tc S12x192 32 [1] iota_S12x192_d1_w32) 16#32 k0_pay3 k0_pay4 k0_pay5 C) k0_pay7 k0_pay8 k0_pay9

theorem inb_S5 (k : Fin 5) : ∀ a, S32x128.size a = 0 ∨ (![k.val, 0] : Fin 2 → Nat) a + (![5, 1] : Fin 2 → Nat) a * (S32x128.size a - 1) < S160x128.size a := by
  revert k; decide
theorem inb_SO (k : Fin 5) : ∀ a : Fin S32x640.rank, (![0, 128 * k.val] : Fin 2 → ℕ) a + S32x128.size a ≤ S32x640.size a := by revert k; decide

/-- The pieces of the scales' result, written at the last point. -/
def SOut (v : Fin 5 → Vec F S32x128 .f32) : List (View.Piece (Elt F) S32x640 .f32) :=
  List.map (fun k : Fin 5 => ⟨Rect.unit ![0, 128 * k.val] S32x128.size (inb_SO k), v k⟩) [4, 3, 2, 1, 0]

end Cert.Body

end
-- ==== Proof.Body.RunA.lean ====
module

public import proofs.«01_k».proof.Proof.Body.Base

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- One call of the body at the first point (the one that fills the two constant scratches): from the inputs' blocks `x0 … x4`
    and the scratches it carries, it runs to its end, leaves the inputs as they were and the listed pieces (last first)
    written into the outputs and the scratches. The pieces are those the run finds. -/
noncomputable def runA (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (xs0 : Vec F S160x128 .f32) :
    Σ' (L5 : List (View.Piece (Elt F) S256x8960 .bf16)), Σ' (L6 : List (View.Piece (Elt F) S256x1536 .fp8e4m3)), Σ' (LS1 : List (View.Piece (Elt F) S320x192 .bf16)), Σ' (LS2 : List (View.Piece (Elt F) S128x512 .bf16)), { LS0 : List (View.Piece (Elt F) S160x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d) ∗ (arg9.view.loc (c : Thread nD τ) ↦[arg9.view.set]{fullShare} arg9.view.writes (Elt F) (harg9.unread xs0) LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_fp8_lokr i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_fp8_lokr_eq_skeleton]; unfold cc0_fp8_lokr_skel
    simp only [k0_part102_eq_skeleton, k0_part4_eq_skeleton, k0_part3_eq_skeleton, k0_part1_eq_skeleton, k0_part2_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _, _; isplitr; swap; · iexact H7
      ipureintro; rfl
    isplitl [HS0]; · iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Body

end
-- ==== Proof.Body.EqA.lean ====
module

public import proofs.«01_k».proof.Proof.Body.Lists
public import proofs.«01_k».proof.Proof.Body.RunA

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (xs0 : Vec F S160x128 .f32)

set_option maxHeartbeats 16000000

/-- The pieces of `y`. -/
theorem runA_y : (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).1 =
    YAll arg2 arg3 arg12 arg13 arg14 (View.readAt (Elt F) arg1.view (Rect.unit (s := S256x1536) ![0, 0] S256x1536.size inb_S256x1536_S256x1536_0_0).toLoadRect (harg1.unread x0)) (harg2.unread x1) (harg3.unread x2)
      (arg11.view.readCov (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.2.1 (Rect.unit (s := S128x512) ![0, 0] S128x512.size inb_S128x512_S128x512_0_0).toLoadRect)
      (arg10.view.readCov (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.1 (Rect.unit (s := S320x192) ![0, 0] S160x192.size inb_S320x192_S160x192_0_0).toLoadRect)
      (arg10.view.readCov (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.1 (Rect.unit (s := S320x192) ![160, 0] S160x192.size inb_S320x192_S160x192_160_0).toLoadRect) := by sl_kernel_rfl

/-- The piece of the codes. -/
theorem runA_codes : (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.1 =
    [⟨Rect.unit (s := S256x1536) ![0, 0] S256x1536.size inb_S256x1536_S256x1536_0_0, codesV (View.readAt (Elt F) arg1.view (Rect.unit (s := S256x1536) ![0, 0] S256x1536.size inb_S256x1536_S256x1536_0_0).toLoadRect (harg1.unread x0))⟩] := by sl_kernel_rfl

/-- The rows of scales. -/
theorem runA_rows : (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.2.2.1 = SList i (View.readAt (Elt F) arg1.view (Rect.unit (s := S256x1536) ![0, 0] S256x1536.size inb_S256x1536_S256x1536_0_0).toLoadRect (harg1.unread x0)) := by sl_kernel_rfl

/-- The Kronecker factor. -/
theorem runA_kron : (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.1 =
    [⟨Rect.unit (s := S320x192) ![0, 0] S320x192.size inb_S320x192_S320x192_0_0, kronV (View.readAt (Elt F) arg4.view (Rect.unit (s := S20x12) ![0, 0] S20x12.size inb_S20x12_S20x12_0_0).toLoadRect (harg4.unread x3))⟩] := by sl_kernel_rfl

/-- The padded transpose. -/
theorem runA_dt : (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.2.1 =
    [⟨Rect.unit (s := S128x512) ![0, 0] S128x448.size inb_S128x512_S128x448_0_0, k0_pay12 (View.readAt (Elt F) arg5.view (Rect.unit (s := S448x128) ![0, 0] S448x128.size inb_S448x128_S448x128_0_0).toLoadRect (harg5.unread x4))⟩,
     ⟨Rect.unit (s := S128x512) ![0, 0] S128x512.size inb_S128x512_S128x512_0_0, k0_pay11⟩] := by sl_kernel_rfl

end

end Cert.Body

end
-- ==== Proof.Body.Clean.lean ====
module

public import proofs.«01_k».proof.Proof.Body.Lists
public import Idealize.ShloMosaic.Lib.VecWindow
public import Idealize.ShloMosaic.Lib.Pointwise
public import Idealize.ShloMosaic.Lib.Pipeline.Value
public import Idealize.ShloMosaic.Lib.Pipeline.ValueKit.Basic
public import Idealize.ShloMosaic.Lib.WholeRead

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pointwise
open Idealize.ShloMosaic.Pipeline (Dat Cfg Window BodyObligation cellOf)

variable {F : FTy → Type} [FloatOps F]

local notation "𝕄" => MT nD τ sig Unit (Elt F) ℕ (UR sig nD τ) ℕ

/-! ## The same lists from plain arrays, and what they leave -/

/-- The Kronecker factor the first call leaves. -/
def KronC (x3 : Vec F S20x12 .bf16) : Vec F S320x192 .bf16 := kronV x3

/-- The padded transpose the first call leaves. -/
def DtC (x4 : Vec F S448x128 .bf16) : Vec F S128x512 .bf16 :=
  View.canon [⟨Rect.unit (s := S128x512) ![0, 0] S128x448.size inb_S128x512_S128x448_0_0, k0_pay12 x4⟩,
     ⟨Rect.unit (s := S128x512) ![0, 0] S128x512.size inb_S128x512_S128x512_0_0, k0_pay11⟩]

/-- The pieces of the adapter's scratch, from the block and the two constant scratches. -/
def UC (x0 : Vec F S256x1536 .bf16) (K : Vec F S320x192 .bf16) (D : Vec F S128x512 .bf16) : List (View.Piece (Elt F) S256x8960 .f32) :=
  UList (fun g => View.ld (View.canon (TList (codesV x0) D)) (Rect.unit (s := S12x256x512) ![0, 16 * g.val, 0] S12x16x512.size (inb_Tr g)))
    (fun g => View.ld (View.canon (T2List (codesV x0) D)) (Rect.unit (s := S12x256x512) ![0, 16 * g.val, 0] S12x16x512.size (inb_Tr g)))
    (View.ld K (Rect.unit (s := S320x192) ![0, 0] S160x192.size inb_S320x192_S160x192_0_0))
    (View.ld K (Rect.unit (s := S320x192) ![160, 0] S160x192.size inb_S320x192_S160x192_160_0))

/-- The pieces of `y`, from the blocks and the two constant scratches. -/
def YC (x0 : Vec F S256x1536 .bf16) (x1 : Vec F S8960x1536 .fp8e4m3) (x2 : Vec F S1x8960 .f32) (K : Vec F S320x192 .bf16) (D : Vec F S128x512 .bf16) :
    List (View.Piece (Elt F) S256x8960 .bf16) :=
  YList (codesV x0) (scaleV x0) (fun j => View.ld x1 (Rect.unit (s := S8960x1536) ![256 * j.val, 0] S256x1536.size (inb_W j)))
    (fun j => View.ld x2 (Rect.unit (s := S1x8960) ![0, 256 * j.val] S1x256.size (inb_WS j)))
    (fun j => View.ld (View.canon (UC x0 K D)) (Rect.unit (s := S256x8960) ![0, 256 * j.val] S256x256.size (inb_Y j)))

/-- A load of a rectangle of what reads `X` reads `X` there. -/
theorem readAt_ld {sp : Space} {s : Shape} {e : EltTy} (m : Memref sig .tc sp s e) (h : m.IsWhole) (X : s.Idx → Elt F e) (r : Rect s) :
    View.readAt (Elt F) m.view r.toLoadRect (h.unread X) = View.ld X r := funext fun x => h.readAt_unread X _ x

/-- A load of a rectangle of what the pieces leave reads the pieces there. -/
theorem readCov_ld {sp : Space} {s : Shape} {e : EltTy} (v : View sig .tc sp s e) (L : List (View.Piece (Elt F) s e)) (r : Rect s) :
    v.readCov L r.toLoadRect = View.ld (View.canon L) r := View.readCov_eq_canon' v L _

/-- A rectangle at the origin of the whole size contains every index. -/
theorem mem_whole {s : Shape} {off : Fin s.rank → ℕ} (inb : ∀ a, off a + s.size a ≤ s.size a) (h : ∀ a, off a = 0) (y : s.Idx) :
    y ∈ (Rect.unit (s := s) off s.size inb).set :=
  Rect.mem_set_unit.mpr fun a => ⟨by rw [h a]; exact Nat.zero_le _, by rw [h a, Nat.zero_add]; exact (y a).isLt⟩

theorem YAll_eq (arg2 : Memref sig .tc .vmem S8960x1536 .fp8e4m3) (h2 : arg2.IsWhole) (arg3 : Memref sig .tc .vmem S1x8960 .f32) (h3 : arg3.IsWhole)
    (arg12 : Memref sig .tc .vmem S12x256x512 .bf16) (arg13 : Memref sig .tc .vmem S12x256x512 .bf16) (arg14 : Memref sig .tc .vmem S256x8960 .f32)
    (X : Vec F S256x1536 .bf16) (x1 : Vec F S8960x1536 .fp8e4m3) (x2 : Vec F S1x8960 .f32) (K : Vec F S320x192 .bf16) (D : Vec F S128x512 .bf16) :
    YAll arg2 arg3 arg12 arg13 arg14 X (h2.unread x1) (h3.unread x2) D
      (View.ld K (Rect.unit (s := S320x192) ![0, 0] S160x192.size inb_S320x192_S160x192_0_0))
      (View.ld K (Rect.unit (s := S320x192) ![160, 0] S160x192.size inb_S320x192_S160x192_160_0)) = YC X x1 x2 K D := by
  unfold YAll YC UC
  simp only [readAt_ld, readCov_ld]

/-- The tiles cover the block of `y`. -/
theorem cover_YList (codes : FVec F S256x1536 .fp8e4m3) (scale : FVec F S256x1 .f32) (w : Fin 35 → Vec F S256x1536 .fp8e4m3) (ws : Fin 35 → Vec F S1x256 .f32)
    (u : Fin 35 → Vec F S256x256 .f32) (y : S256x8960.Idx) : ∃ p ∈ YList codes scale w ws u, y ∈ p.1.set := by
  have h0 : (y 0).val < 256 := (y 0).isLt
  have h1 : (y 1).val < 8960 := (y 1).isLt
  refine ⟨_, List.mem_map.mpr ⟨⟨(y 1).val / 256, by omega⟩, ?_, rfl⟩, ?_⟩
  · generalize (⟨(y 1).val / 256, _⟩ : Fin 35) = j
    revert j; decide
  · refine (Rect.mem_set_unit (inb := inb_Y _)).mpr fun a => ?_
    match a with
    | ⟨0, _⟩ => show 0 ≤ (y 0).val ∧ (y 0).val < 0 + 256; omega
    | ⟨1, _⟩ => show 256 * ((y 1).val / 256) ≤ (y 1).val ∧ (y 1).val < 256 * ((y 1).val / 256) + 256; omega

/-- The five column blocks cover the scales' result. -/
theorem cover_SOut (v : Fin 5 → Vec F S32x128 .f32) (y : S32x640.Idx) : ∃ p ∈ SOut v, y ∈ p.1.set := by
  have h0 : (y 0).val < 32 := (y 0).isLt
  have h1 : (y 1).val < 640 := (y 1).isLt
  refine ⟨_, List.mem_map.mpr ⟨⟨(y 1).val / 128, by omega⟩, ?_, rfl⟩, ?_⟩
  · generalize (⟨(y 1).val / 128, _⟩ : Fin 5) = j
    revert j; decide
  · refine (Rect.mem_set_unit (inb := inb_SO _)).mpr fun a => ?_
    match a with
    | ⟨0, _⟩ => show 0 ≤ (y 0).val ∧ (y 0).val < 0 + 32; omega
    | ⟨1, _⟩ => show 128 * ((y 1).val / 128) ≤ (y 1).val ∧ (y 1).val < 128 * ((y 1).val / 128) + 128; omega

/-- The five column blocks read: column `l` is in block `l / 128`. -/
theorem SOut_apply (v : Fin 5 → Vec F S32x128 .f32) (y : S32x640.Idx) :
    View.canon (SOut v) y = v ⟨(y 1).val / 128, by have h1 : (y 1).val < 640 := (y 1).isLt; omega⟩ (ix2 ⟨(y 0).val, (y 0).isLt⟩ ⟨(y 1).val % 128, Nat.mod_lt _ (by decide)⟩) := by
  refine View.canon_apply_of_pieces (fun y : S32x640.Idx => v ⟨(y 1).val / 128, by have h1 : (y 1).val < 640 := (y 1).isLt; omega⟩ (ix2 ⟨(y 0).val, (y 0).isLt⟩ ⟨(y 1).val % 128, Nat.mod_lt _ (by decide)⟩)) _ ?_ y (cover_SOut v y)
  intro p hp x
  obtain ⟨k, -, rfl⟩ := List.mem_map.mp hp
  have hx0 : (x 0).val < 32 := (x 0).isLt
  have hx1 : (x 1).val < 128 := (x 1).isLt
  have e0 : ((Rect.unit (s := S32x640) ![0, 128 * k.val] S32x128.size (inb_SO k)).emb x 0).val = 0 + 1 * (x 0).val := rfl
  have e1 : ((Rect.unit (s := S32x640) ![0, 128 * k.val] S32x128.size (inb_SO k)).emb x 1).val = 128 * k.val + 1 * (x 1).val := rfl
  show v k x = v _ _
  congr 1
  · apply Fin.ext; show k.val = _ / 128; rw [e1]; omega
  · funext a; apply Fin.ext
    match a with
    | ⟨0, _⟩ => exact ((Nat.zero_add _).trans (Nat.one_mul _)).symm
    | ⟨1, _⟩ => exact (show (x 1).val = (128 * k.val + 1 * (x 1).val) % 128 by omega)

/-- The two rows of scales a point writes, and the rows it leaves. -/
theorem SList_row (i : grid0.Coords) (n : ℕ) (hn : n < 80) (hi : (i 0).val = n) (X : Vec F S256x1536 .bf16) (v : View sig .tc .vmem S160x128 .f32)
    (f : v.ty.Contents (Elt F)) (r : Fin 160) (l : Fin 128) :
    v.read (Elt F) (v.writes (Elt F) f (SList i X)) (ix2 r l)
      = if r.val = 2 * n then scaleRow0 X (ix2 0 l) else if r.val = 2 * n + 1 then scaleRow1 X (ix2 0 l) else v.read (Elt F) f (ix2 r l) := by
  have h0 : k0_off1 i 0#32 = ![2 * n + 0, 0] := by rw [← hi]; exact k0_off1_eq i 0
  have h1 : k0_off1 i 1#32 = ![2 * n + 1, 0] := by rw [← hi]; exact k0_off1_eq i 1
  unfold SList
  by_cases e1 : r.val = 2 * n + 1
  · rw [if_neg (by omega), if_pos e1]
    refine View.read_writes_cons_unit_of_mem v f _ _ _ (ix2 r l) (ix2 0 l) h1 fun a => ?_
    match a with
    | ⟨0, _⟩ => exact e1
    | ⟨1, _⟩ => exact (Nat.zero_add _).symm
  rw [View.read_writes_cons_unit_of_not_mem v f _ _ _ (ix2 r l) h1 (0 : Fin 2) (by show r.val < 2 * n + 1 ∨ 2 * n + 1 + 1 ≤ r.val; omega)]
  by_cases e0 : r.val = 2 * n
  · rw [if_pos e0]
    refine View.read_writes_cons_unit_of_mem v f _ _ _ (ix2 r l) (ix2 0 l) h0 fun a => ?_
    match a with
    | ⟨0, _⟩ => exact e0
    | ⟨1, _⟩ => exact (Nat.zero_add _).symm
  rw [View.read_writes_cons_unit_of_not_mem v f _ _ _ (ix2 r l) h0 (0 : Fin 2) (by show r.val < 2 * n + 0 ∨ 2 * n + 0 + 1 ≤ r.val; omega), if_neg e0, if_neg e1]
  rfl

/-- What a store of the whole shape leaves under one more store. -/
theorem read_last_whole {sp : Space} {s : Shape} {e : EltTy} (v : View sig .tc sp s e) (f : v.ty.Contents (Elt F)) (p : View.Piece (Elt F) s e)
    {off : Fin s.rank → ℕ} (inb : ∀ a, off a + s.size a ≤ s.size a) (h : ∀ a, off a = 0) (w : s.Idx → Elt F e) :
    v.read (Elt F) (v.writes (Elt F) f [p, ⟨Rect.unit (s := s) off s.size inb, w⟩]) = View.canon [p, ⟨Rect.unit (s := s) off s.size inb, w⟩] :=
  View.read_writes_eq_canon v f _ fun y => ⟨_, List.mem_cons_of_mem _ (List.mem_singleton_self _), mem_whole inb h y⟩

end Cert.Body

end
-- ==== Proof.Body.CleanA.lean ====
module

public import proofs.«01_k».proof.Proof.Body.EqA
public import proofs.«01_k».proof.Proof.Body.Clean
public import Idealize.ShloMosaic.Lib.Pipeline.Value
public import Idealize.ShloMosaic.Lib.Pipeline.ValueKit.Basic
public import Idealize.ShloMosaic.Lib.WholeRead

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (xs0 : Vec F S160x128 .f32)

theorem runA_kron' : (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.1 =
    [⟨Rect.unit (s := S320x192) ![0, 0] S320x192.size inb_S320x192_S320x192_0_0, KronC x3⟩] := by
  rw [runA_kron, readAt_ld, View.ld_unit_lit _ _ (by decide)]; rfl

theorem runA_dt' : View.canon (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.2.1 = DtC x4 := by
  rw [runA_dt, readAt_ld, View.ld_unit_lit _ _ (by decide)]; rfl

/-- What the first call leaves in the Kronecker factor's scratch. -/
theorem runA_readK (f : arg10.view.ty.Contents (Elt F)) :
    arg10.view.read (Elt F) (arg10.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.1) = KronC x3 := by
  rw [runA_kron', View.read_writes_full]

/-- What the first call leaves in the transpose's scratch. -/
theorem runA_readD (f : arg11.view.ty.Contents (Elt F)) :
    arg11.view.read (Elt F) (arg11.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.2.1) = DtC x4 := by
  rw [runA_dt, readAt_ld, View.ld_unit_lit _ _ (by decide)]
  exact read_last_whole _ _ _ _ (by decide) _

theorem runA_y' : (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).1 = YC x0 x1 x2 (KronC x3) (DtC x4) := by
  have e1 : View.ld (DtC x4) (Rect.unit (s := S128x512) ![0, 0] S128x512.size inb_S128x512_S128x512_0_0) = DtC x4 := View.ld_unit_lit _ _ (by decide)
  have e2 : View.ld x0 (Rect.unit (s := S256x1536) ![0, 0] S256x1536.size inb_S256x1536_S256x1536_0_0) = x0 := View.ld_unit_lit _ _ (by decide)
  have e3 : View.canon [⟨Rect.unit (s := S320x192) ![0, 0] S320x192.size inb_S320x192_S320x192_0_0, KronC x3⟩] = KronC x3 := View.canon_cons_unit_lit _ _ _ (by decide)
  rw [runA_y]
  simp only [readCov_ld, readAt_ld]
  rw [runA_dt', runA_kron', e3, e1, e2, YAll_eq]

/-- What the call leaves in the block of `y`. -/
theorem runA_readY (f : arg6.view.ty.Contents (Elt F)) :
    arg6.view.read (Elt F) (arg6.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).1) = View.canon (YC x0 x1 x2 (KronC x3) (DtC x4)) := by
  rw [runA_y']; exact View.read_writes_eq_canon _ _ _ (cover_YList _ _ _ _ _)

/-- What the call leaves in the block of the codes. -/
theorem runA_readCodes (f : arg7.view.ty.Contents (Elt F)) :
    arg7.view.read (Elt F) (arg7.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.1) = codesV x0 := by
  rw [runA_codes, readAt_ld, View.ld_unit_lit _ _ (by decide), View.read_writes_full]

theorem runA_rows' : (runA c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0).2.2.2.2.1 = SList i x0 := by
  rw [runA_rows, readAt_ld, View.ld_unit_lit _ _ (by decide)]

end

end Cert.Body

end
-- ==== Proof.Body.RunB.lean ====
module

public import proofs.«01_k».proof.Proof.Body.RunA

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- One call of the body at a point that is neither the first nor the last: from the inputs' blocks `x0 … x4`
    and the scratches it carries, it runs to its end, leaves the inputs as they were and the listed pieces (last first)
    written into the outputs and the scratches. The pieces are those the run finds. -/
noncomputable def runB (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (xs0 : Vec F S160x128 .f32) (xs1 : Vec F S320x192 .bf16) (xs2 : Vec F S128x512 .bf16) :
    Σ' (L5 : List (View.Piece (Elt F) S256x8960 .bf16)), Σ' (L6 : List (View.Piece (Elt F) S256x1536 .fp8e4m3)), { LS0 : List (View.Piece (Elt F) S160x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ d, owns (c : Thread nD τ) arg8 fullShare d) ∗ (arg9.view.loc (c : Thread nD τ) ↦[arg9.view.set]{fullShare} arg9.view.writes (Elt F) (harg9.unread xs0) LS0) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_fp8_lokr i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_fp8_lokr_eq_skeleton]; unfold cc0_fp8_lokr_skel
    simp only [k0_part102_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]
    · iexists _, _; isplitr; swap; · iexact H7
      ipureintro; rfl
    isplitl [HS0]; · iexact HS0
    isplitl [HS1]
    · iexists _; isplitr; · ipureintro; exact harg10.read_unread _
      iexact HS1
    isplitl [HS2]
    · iexists _; isplitr; · ipureintro; exact harg11.read_unread _
      iexact HS2
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Body

end
-- ==== Proof.Body.EqB.lean ====
module

public import proofs.«01_k».proof.Proof.Body.Lists
public import proofs.«01_k».proof.Proof.Body.RunB

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (xs0 : Vec F S160x128 .f32) (xs1 : Vec F S320x192 .bf16) (xs2 : Vec F S128x512 .bf16)

set_option maxHeartbeats 16000000

/-- The pieces of `y`. -/
theorem runB_y : (runB c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).1 =
    YAll arg2 arg3 arg12 arg13 arg14 (View.readAt (Elt F) arg1.view (Rect.unit (s := S256x1536) ![0, 0] S256x1536.size inb_S256x1536_S256x1536_0_0).toLoadRect (harg1.unread x0)) (harg2.unread x1) (harg3.unread x2)
      (View.readAt (Elt F) arg11.view (Rect.unit (s := S128x512) ![0, 0] S128x512.size inb_S128x512_S128x512_0_0).toLoadRect (harg11.unread xs2))
      (View.readAt (Elt F) arg10.view (Rect.unit (s := S320x192) ![0, 0] S160x192.size inb_S320x192_S160x192_0_0).toLoadRect (harg10.unread xs1))
      (View.readAt (Elt F) arg10.view (Rect.unit (s := S320x192) ![160, 0] S160x192.size inb_S320x192_S160x192_160_0).toLoadRect (harg10.unread xs1)) := by sl_kernel_rfl

/-- The piece of the codes. -/
theorem runB_codes : (runB c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.1 =
    [⟨Rect.unit (s := S256x1536) ![0, 0] S256x1536.size inb_S256x1536_S256x1536_0_0, codesV (View.readAt (Elt F) arg1.view (Rect.unit (s := S256x1536) ![0, 0] S256x1536.size inb_S256x1536_S256x1536_0_0).toLoadRect (harg1.unread x0))⟩] := by sl_kernel_rfl

/-- The rows of scales. -/
theorem runB_rows : (runB c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.2.1 = SList i (View.readAt (Elt F) arg1.view (Rect.unit (s := S256x1536) ![0, 0] S256x1536.size inb_S256x1536_S256x1536_0_0).toLoadRect (harg1.unread x0)) := by sl_kernel_rfl

end

end Cert.Body

end
-- ==== Proof.Body.CleanB.lean ====
module

public import proofs.«01_k».proof.Proof.Body.EqB
public import proofs.«01_k».proof.Proof.Body.Clean
public import Idealize.ShloMosaic.Lib.Pipeline.Value
public import Idealize.ShloMosaic.Lib.Pipeline.ValueKit.Basic
public import Idealize.ShloMosaic.Lib.WholeRead

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : ¬cond0_1 i)
    (x0 : Vec F S256x1536 .bf16) (x1 : Vec F S8960x1536 .fp8e4m3) (x2 : Vec F S1x8960 .f32) (x3 : Vec F S20x12 .bf16) (x4 : Vec F S448x128 .bf16) (xs0 : Vec F S160x128 .f32) (xs1 : Vec F S320x192 .bf16) (xs2 : Vec F S128x512 .bf16)

theorem runB_y' : (runB c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).1 = YC x0 x1 x2 xs1 xs2 := by
  rw [runB_y, readAt_ld, readAt_ld, readAt_ld, readAt_ld, View.ld_unit_lit _ _ (by decide), View.ld_unit_lit _ _ (by decide), YAll_eq]

/-- What the call leaves in the block of `y`. -/
theorem runB_readY (f : arg6.view.ty.Contents (Elt F)) :
    arg6.view.read (Elt F) (arg6.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).1) = View.canon (YC x0 x1 x2 xs1 xs2) := by
  rw [runB_y']; exact View.read_writes_eq_canon _ _ _ (cover_YList _ _ _ _ _)

/-- What the call leaves in the block of the codes. -/
theorem runB_readCodes (f : arg7.view.ty.Contents (Elt F)) :
    arg7.view.read (Elt F) (arg7.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.1) = codesV x0 := by
  rw [runB_codes, readAt_ld, View.ld_unit_lit _ _ (by decide), View.read_writes_full]

theorem runB_rows' : (runB c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.2.1 = SList i x0 := by
  rw [runB_rows, readAt_ld, View.ld_unit_lit _ _ (by decide)]

end

end Cert.Body

end
-- ==== Proof.Body.RunC.lean ====
module

public import proofs.«01_k».proof.Proof.Body.RunB

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- One call of the body at the last point (the one that copies the scales out): from the inputs' blocks `x0 … x4`
    and the scratches it carries, it runs to its end, leaves the inputs as they were and the listed pieces (last first)
    written into the outputs and the scratches. The pieces are those the run finds. -/
noncomputable def runC (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : cond0_1 i)
    (x0 : Vec F S256x1536 .bf16) (x1 : Vec F S8960x1536 .fp8e4m3) (x2 : Vec F S1x8960 .f32) (x3 : Vec F S20x12 .bf16) (x4 : Vec F S448x128 .bf16) (xs0 : Vec F S160x128 .f32) (xs1 : Vec F S320x192 .bf16) (xs2 : Vec F S128x512 .bf16) :
    Σ' (L5 : List (View.Piece (Elt F) S256x8960 .bf16)), Σ' (L6 : List (View.Piece (Elt F) S256x1536 .fp8e4m3)), Σ' (L7 : List (View.Piece (Elt F) S32x640 .f32)), { LS0 : List (View.Piece (Elt F) S160x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (arg9.view.loc (c : Thread nD τ) ↦[arg9.view.set]{fullShare} arg9.view.writes (Elt F) (harg9.unread xs0) LS0) ∗ owns (c : Thread nD τ) arg10 fullShare xs1 ∗ owns (c : Thread nD τ) arg11 fullShare xs2 ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_fp8_lokr i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_fp8_lokr_eq_skeleton]; unfold cc0_fp8_lokr_skel
    simp only [k0_part102_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part103_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1; obtain rfl := harg11.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexact HS0
    isplitl [HS1]
    · iexists _; isplitr; · ipureintro; exact harg10.read_unread _
      iexact HS1
    isplitl [HS2]
    · iexists _; isplitr; · ipureintro; exact harg11.read_unread _
      iexact HS2
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.Body

end
-- ==== Proof.Body.EqC.lean ====
module

public import proofs.«01_k».proof.Proof.Body.Lists
public import proofs.«01_k».proof.Proof.Body.RunC

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : cond0_1 i)
    (x0 : Vec F S256x1536 .bf16) (x1 : Vec F S8960x1536 .fp8e4m3) (x2 : Vec F S1x8960 .f32) (x3 : Vec F S20x12 .bf16) (x4 : Vec F S448x128 .bf16) (xs0 : Vec F S160x128 .f32) (xs1 : Vec F S320x192 .bf16) (xs2 : Vec F S128x512 .bf16)

set_option maxHeartbeats 16000000

/-- The pieces of `y`. -/
theorem runC_y : (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).1 =
    YAll arg2 arg3 arg12 arg13 arg14 (View.readAt (Elt F) arg1.view (Rect.unit (s := S256x1536) ![0, 0] S256x1536.size inb_S256x1536_S256x1536_0_0).toLoadRect (harg1.unread x0)) (harg2.unread x1) (harg3.unread x2)
      (View.readAt (Elt F) arg11.view (Rect.unit (s := S128x512) ![0, 0] S128x512.size inb_S128x512_S128x512_0_0).toLoadRect (harg11.unread xs2))
      (View.readAt (Elt F) arg10.view (Rect.unit (s := S320x192) ![0, 0] S160x192.size inb_S320x192_S160x192_0_0).toLoadRect (harg10.unread xs1))
      (View.readAt (Elt F) arg10.view (Rect.unit (s := S320x192) ![160, 0] S160x192.size inb_S320x192_S160x192_160_0).toLoadRect (harg10.unread xs1)) := by sl_kernel_rfl

/-- The piece of the codes. -/
theorem runC_codes : (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.1 =
    [⟨Rect.unit (s := S256x1536) ![0, 0] S256x1536.size inb_S256x1536_S256x1536_0_0, codesV (View.readAt (Elt F) arg1.view (Rect.unit (s := S256x1536) ![0, 0] S256x1536.size inb_S256x1536_S256x1536_0_0).toLoadRect (harg1.unread x0))⟩] := by sl_kernel_rfl

/-- The rows of scales. -/
theorem runC_rows : (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.2.2.1 = SList i (View.readAt (Elt F) arg1.view (Rect.unit (s := S256x1536) ![0, 0] S256x1536.size inb_S256x1536_S256x1536_0_0).toLoadRect (harg1.unread x0)) := by sl_kernel_rfl

/-- The five column blocks of the scales' result. -/
theorem runC_scales : (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.2.1 =
    SOut (fun k => View.readAt (Elt F) arg9.view ⟨![k.val, 0], S32x128.size, ![5, 1], inb_S5 k⟩ (arg9.view.writes (Elt F) (harg9.unread xs0) (SList i (View.readAt (Elt F) arg1.view (Rect.unit (s := S256x1536) ![0, 0] S256x1536.size inb_S256x1536_S256x1536_0_0).toLoadRect (harg1.unread x0))))) := by sl_kernel_rfl

end

end Cert.Body

end
-- ==== Proof.Body.CleanC.lean ====
module

public import proofs.«01_k».proof.Proof.Body.EqC
public import proofs.«01_k».proof.Proof.Body.Clean
public import Idealize.ShloMosaic.Lib.Pipeline.Value
public import Idealize.ShloMosaic.Lib.Pipeline.ValueKit.Basic
public import Idealize.ShloMosaic.Lib.WholeRead

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg1 : Memref sig .tc .vmem S256x1536 .bf16) (harg1 : arg1.IsWhole) (arg2 : Memref sig .tc .vmem S8960x1536 .fp8e4m3) (harg2 : arg2.IsWhole) (arg3 : Memref sig .tc .vmem S1x8960 .f32) (harg3 : arg3.IsWhole) (arg4 : Memref sig .tc .vmem S20x12 .bf16) (harg4 : arg4.IsWhole) (arg5 : Memref sig .tc .vmem S448x128 .bf16) (harg5 : arg5.IsWhole) (arg6 : Memref sig .tc .vmem S256x8960 .bf16) (harg6 : arg6.IsWhole) (arg7 : Memref sig .tc .vmem S256x1536 .fp8e4m3) (harg7 : arg7.IsWhole) (arg8 : Memref sig .tc .vmem S32x640 .f32) (harg8 : arg8.IsWhole) (arg9 : Memref sig .tc .vmem S160x128 .f32) (harg9 : arg9.IsWhole) (arg10 : Memref sig .tc .vmem S320x192 .bf16) (harg10 : arg10.IsWhole) (arg11 : Memref sig .tc .vmem S128x512 .bf16) (harg11 : arg11.IsWhole) (arg12 : Memref sig .tc .vmem S12x256x512 .bf16) (harg12 : arg12.IsWhole) (arg13 : Memref sig .tc .vmem S12x256x512 .bf16) (harg13 : arg13.IsWhole) (arg14 : Memref sig .tc .vmem S256x8960 .f32) (harg14 : arg14.IsWhole) (hc0 : ¬cond0_0 i) (hc1 : cond0_1 i)
    (x0 : Vec F S256x1536 .bf16) (x1 : Vec F S8960x1536 .fp8e4m3) (x2 : Vec F S1x8960 .f32) (x3 : Vec F S20x12 .bf16) (x4 : Vec F S448x128 .bf16) (xs0 : Vec F S160x128 .f32) (xs1 : Vec F S320x192 .bf16) (xs2 : Vec F S128x512 .bf16)

theorem runC_y' : (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).1 = YC x0 x1 x2 xs1 xs2 := by
  rw [runC_y, readAt_ld, readAt_ld, readAt_ld, readAt_ld, View.ld_unit_lit _ _ (by decide), View.ld_unit_lit _ _ (by decide), YAll_eq]

/-- What the call leaves in the block of `y`. -/
theorem runC_readY (f : arg6.view.ty.Contents (Elt F)) :
    arg6.view.read (Elt F) (arg6.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).1) = View.canon (YC x0 x1 x2 xs1 xs2) := by
  rw [runC_y']; exact View.read_writes_eq_canon _ _ _ (cover_YList _ _ _ _ _)

/-- What the call leaves in the block of the codes. -/
theorem runC_readCodes (f : arg7.view.ty.Contents (Elt F)) :
    arg7.view.read (Elt F) (arg7.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.1) = codesV x0 := by
  rw [runC_codes, readAt_ld, View.ld_unit_lit _ _ (by decide), View.read_writes_full]

theorem runC_rows' : (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.2.2.1 = SList i x0 := by
  rw [runC_rows, readAt_ld, View.ld_unit_lit _ _ (by decide)]

/-- What the last call leaves in the block of the scales: the rows of the scratch, every fifth. -/
theorem runC_readS (f : arg8.view.ty.Contents (Elt F)) :
    arg8.view.read (Elt F) (arg8.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 xs0 xs1 xs2).2.2.1)
      = View.canon (SOut (fun k => fun y => arg9.view.read (Elt F) (arg9.view.writes (Elt F) (harg9.unread xs0) (SList i x0))
          ((⟨![k.val, 0], S32x128.size, ![5, 1], inb_S5 k⟩ : LoadRect S160x128).idx y))) := by
  rw [runC_scales, readAt_ld, View.ld_unit_lit _ _ (by decide), View.read_writes_eq_canon _ _ _ (cover_SOut _)]
  rfl

end

end Cert.Body

end
-- ==== Proof.Body.Data.lean ====
module

public import proofs.«01_k».proof.Proof.Body.CleanA
public import proofs.«01_k».proof.Proof.Body.CleanB
public import proofs.«01_k».proof.Proof.Body.CleanC
public import Idealize.ShloMosaic.Lib.Pointwise
public import Idealize.ShloMosaic.Lib.Pipeline.TableIdle
public import Idealize.ShloMosaic.Lib.Claim
public import Idealize.ShloMosaic.Lib.Pipeline.Value
public import Idealize.ShloMosaic.Lib.Pipeline.ValueKit.Basic
public import Idealize.ShloMosaic.Lib.WholeRead

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch holds between points -/

/-- The first point. -/
def t0 : Fin cfg0.N := ⟨0, by rw [show cfg0.N = 80 from N_0]; decide⟩

/-- The point whose call writes row `r` of the rows of scales. -/
def tRow (r : Fin 160) : Fin cfg0.N := ⟨r.val / 2, by rw [show cfg0.N = 80 from N_0]; omega⟩

/-- Row `r` of the rows of scales: each point writes two. -/
def rowOf (c : Dev nD) (r : Fin 160) (l : Fin 128) : F .f32 :=
  if r.val % 2 = 0 then scaleRow0 (iblk m c 0 (tRow r)) (ix2 0 l) else scaleRow1 (iblk m c 0 (tRow r)) (ix2 0 l)

/-- The first `2 n` rows of the scratch hold their scales. -/
def RowsOK (c : Dev nD) (n : ℕ) (S : Vec F S160x128 .f32) : Prop :=
  ∀ (r : Fin 160) (l : Fin 128), r.val < 2 * n → S (ix2 r l) = rowOf m c r l

/-- The result of the scales: sixteen hundred rows of 128, five to a row. -/
def scalesV (c : Dev nD) : Vec F S32x640 .f32 := fun y =>
  rowOf m c ⟨5 * (y 0).val + (y 1).val / 128, by have h0 : (y 0).val < 32 := (y 0).isLt; have h1 : (y 1).val < 640 := (y 1).isLt; omega⟩
    ⟨(y 1).val % 128, Nat.mod_lt _ (by decide)⟩

/-- The rows after the two stores of point `n`. -/
theorem RowsOK_step (c : Dev nD) (t : Fin cfg0.N) (S : Vec F S160x128 .f32) (hS : RowsOK m c t.val S)
    (v : View sig .tc .vmem S160x128 .f32) (f : v.ty.Contents (Elt F)) (hf : v.read (Elt F) f = S) :
    RowsOK m c (t.val + 1) (v.read (Elt F) (v.writes (Elt F) f (SList (grid0.coords t) (iblk m c 0 t)))) := by
  have ht : t.val < 80 := Nat.lt_of_lt_of_eq t.isLt N_0
  have e0 : (grid0.coords t 0).val = t.val / 1 % 80 := Pipeline.Grid.coords_val t 0 (by decide) rfl
  replace e0 : (grid0.coords t 0).val = t.val := by omega
  intro r l hr
  rw [SList_row (grid0.coords t) t.val ht e0 (iblk m c 0 t) v f r l, hf]
  unfold rowOf
  by_cases h0 : r.val = 2 * t.val
  · have e : tRow r = t := Fin.ext (show r.val / 2 = t.val by omega)
    rw [if_pos h0, if_pos (by omega), e]
  by_cases h1 : r.val = 2 * t.val + 1
  · have e : tRow r = t := Fin.ext (show r.val / 2 = t.val by omega)
    rw [if_neg h0, if_pos h1, if_neg (by omega), e]
  rw [if_neg h0, if_neg h1]
  exact hS r l (by omega)

/-- The rows after the last point make the result of the scales. -/
theorem SOut_scales (c : Dev nD) (S : Vec F S160x128 .f32) (hS : RowsOK m c 80 S) :
    View.canon (SOut (fun k => fun y => S ((⟨![k.val, 0], S32x128.size, ![5, 1], inb_S5 k⟩ : LoadRect S160x128).idx y))) = scalesV m c := by
  funext y
  have h0 : (y 0).val < 32 := (y 0).isLt
  have h1 : (y 1).val < 640 := (y 1).isLt
  rw [SOut_apply]
  unfold scalesV
  rw [← hS _ _ (by omega)]
  congr 1
  funext a
  apply Fin.ext
  match a with
  | ⟨0, _⟩ => exact (show (y 1).val / 128 + 5 * (y 0).val = 5 * (y 0).val + (y 1).val / 128 by omega)
  | ⟨1, _⟩ => exact (show 0 + 1 * ((y 1).val % 128) = (y 1).val % 128 by omega)

/-- What the scratch holds before point `n`: at the first point anything, then the rows written so far and the two constant factors. -/
def PhiS (c : Dev nD) : (n : ℕ) → n ≤ cfg0.N → sProp 𝕄
  | 0, _ => Pipeline.ΦA spec0 c
  | n + 1, _ => iprop(iprop((∃ S, ⌜RowsOK m c (n + 1) S⌝ ∗ owns (c : Thread nD τ) scM0_0 fullShare S) ∗ owns (c : Thread nD τ) scM0_1 fullShare (KronC (iblk m c 3 t0)) ∗ owns (c : Thread nD τ) scM0_2 fullShare (DtC (iblk m c 4 t0)) ∗ (∃ d, owns (c : Thread nD τ) scM0_3 fullShare d) ∗ (∃ d, owns (c : Thread nD τ) scM0_4 fullShare d) ∗ (∃ d, owns (c : Thread nD τ) scM0_5 fullShare d)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop((∃ S, ⌜RowsOK m c n S⌝ ∗ owns (c : Thread nD τ) scM0_0 fullShare S) ∗ owns (c : Thread nD τ) scM0_1 fullShare (KronC (iblk m c 3 t0)) ∗ owns (c : Thread nD τ) scM0_2 fullShare (DtC (iblk m c 4 t0)) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  cases n with
  | zero => exact absurd rfl hz
  | succ n => rfl

/-! ## The pipeline's proof data -/

/-- What the body leaves of `y` at point `t`. -/
def yC (c : Dev nD) (t : Fin cfg0.N) : Vec F S256x8960 .bf16 :=
  View.canon (YC (iblk m c 0 t) (iblk m c 1 t) (iblk m c 2 t) (KronC (iblk m c 3 t0)) (DtC (iblk m c 4 t0)))

/-- The proof data: the inputs' buffers at their blocks; `y` at `yC`, the codes at `codesV` of the block, the scales at `scalesV`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => yC m c t
    | ⟨6, _⟩ => codesV (iblk m c 0 t)
    | ⟨7, _⟩ => scalesV m c
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = yC m c t := by dsimp only [dats]
theorem after0_6 (c : Dev nD) (t : Fin cfg0.N) : (dats m 0 c).after 6 t = codesV (iblk m c 0 t) := by dsimp only [dats]
theorem after0_7 (c : Dev nD) (t : Fin cfg0.N) : (dats m 0 c).after 7 t = scalesV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The scales' window is idle before the last point. -/
theorem idle0_7 (t : Fin cfg0.N) (h : t.val % 80 ≠ 79) : cfg0.idle 7 (grid0.coords t) = true := by
  have := mt (hcond0_1 t).mp h
  show (!(k0_cond2 (grid0.coords t) == 1#1)) = true
  rw [Bool.not_eq_true', beq_eq_false_iff_ne]
  exact this

theorem live0_7 (t : Fin cfg0.N) (h : t.val % 80 = 79) : cfg0.idle 7 (grid0.coords t) = false := by
  have := (hcond0_1 t).mpr h
  show (!(k0_cond2 (grid0.coords t) == 1#1)) = false
  rw [Bool.not_eq_false', beq_iff_eq]
  exact this

theorem noflush0_7 (t : Fin cfg0.N) (h : t.val % 80 ≠ 79) : (cfg0.win 7).flush t = false :=
  Bool.eq_false_iff.mpr (mt (flush0_7 t).mp h)

/-- So its buffer holds whatever it held when the grid began. -/
theorem before0_7 (c : Dev nD) (t : Fin cfg0.N) (d) : (dats m 0 c).before 7 t d = d := by
  have ht : t.val < 80 := Nat.lt_of_lt_of_eq t.isLt N_0
  rw [(dats m 0 c).before_idle_run 7 (fun t => (cfg0.win 7).fetch_out rfl t) d t.val t le_rfl
    (fun j _ hj => ⟨idle0_7 j (by omega), noflush0_7 j (by omega)⟩)]
  exact (dats m 0 c).before_out_reset 7 rfl _ (.inl (Nat.sub_self _)) d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- An output never idle is left at `after`. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.grid.coords t = grid0.coords t from rfl, h]

/-- The scales' buffer before the last point is left as found. -/
theorem leaves_idle7 (c : Dev nD) (t : Fin cfg0.N) (h : t.val % 80 ≠ 79) :
    (dats m 0 c).leavesExact 7 t = iprop(∃ d, owns (c : Thread nD τ) (ms0_7 t) fullShare d) := by
  unfold Dat.leavesExact
  rw [show cfg0.grid.coords t = grid0.coords t from rfl, idle0_7 t h, noflush0_7 t h]
  simp only [before0_7]
  rfl

set_option maxHeartbeats 9600000 in
/-- The body at the first point. -/
theorem sound_first (c : Dev nD) (t : Fin cfg0.N) (h0 : t.val % 80 = 0) (h1 : ¬t.val % 80 = 79) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  unfold bodyPre bodyPost bodyAt0
  simp only [before0_0, before0_1, before0_2, before0_3, before0_4]
  rw [show (dats m 0 c).owesAt () t.succ = (dats m 0 c).owesAt () t.castSucc from rfl,
    leaves_live m c 0 t (liveAt0_0 t), leaves_live m c 1 t (liveAt0_1 t), leaves_live m c 2 t (liveAt0_2 t), leaves_live m c 3 t (liveAt0_3 t), leaves_live m c 4 t (liveAt0_4 t),
    leaves_live m c 5 t rfl, leaves_live m c 6 t rfl, leaves_idle7 m c t h1,
    after0_0, after0_1, after0_2, after0_3, after0_4, after0_5, after0_6]
  rw [show (dats m 0 c).Φ t.succ = PhiS m c (t.val + 1) t.isLt from rfl, PhiS_pos m c (t.val + 1) _ (Nat.succ_ne_zero _)]
  have hz : t = t0 := Fin.ext (show t.val = 0 by omega)
  rw [PhiS_castSucc m c t, PhiS_zero m c _ _ (show t.val = 0 by omega), PhiA0_eq]
  iintro ⟨⟨⟨⟨%S0, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runA c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) S0).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%e6, H6⟩, H7, HS0, ⟨%es1, HS1⟩, ⟨%es2, HS2⟩, HS3, HS4, HS5⟩
  isplitl [HS0 HS1 HS2 HS3 HS4 HS5 Hg]
  · isplitl [HS0 HS1 HS2 HS3 HS4 HS5]
    · isplitl [HS0]
      · iexists _; isplitr
        swap
        · unfold owns; iexists _; isplitr
          swap; · iexact HS0
          ipureintro; rfl
        ipureintro
        rw [runA_rows']
        exact RowsOK_step m c t S0 (fun r l hr => absurd hr (by omega)) _ _ ((Memref.isWhole_whole cc0_scratch0).read_unread S0)
      isplitl [HS1]
      · unfold owns; iexists _; isplitr
        swap; · iexact HS1
        ipureintro; rw [← hz]; exact runA_readK _ _ _ _ _ _ _ _ _ _ _ _ _ _ _ _ _ _ _ _ _ _ _ _ _ _ _ _ _ _ _ _ _ _ _ _ _ _ _
      isplitl [HS2]
      · unfold owns; iexists _; isplitr
        swap; · iexact HS2
        ipureintro; rw [← hz]; exact runA_readD _ _ _ _ _ _ _ _ _ _ _ _ _ _ _ _ _ _ _ _ _ _ _ _ _ _ _ _ _ _ _ _ _ _ _ _ _ _ _
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; unfold yC; rw [← hz]; exact runA_readY _ _ _ _ _ _ _ _ _ _ _ _ _ _ _ _ _ _ _ _ _ _ _ _ _ _ _ _ _ _ _ _ _ _ _ _ _ _ _
  isplitl [H6]
  · unfold owns; iexists _; isplitr
    swap; · iexact H6
    ipureintro; exact runA_readCodes _ _ _ _ _ _ _ _ _ _ _ _ _ _ _ _ _ _ _ _ _ _ _ _ _ _ _ _ _ _ _ _ _ _ _ _ _ _ _
  iexact H7

set_option maxHeartbeats 9600000 in
/-- The body at a point between. -/
theorem sound_middle (c : Dev nD) (t : Fin cfg0.N) (h0 : ¬t.val % 80 = 0) (h1 : ¬t.val % 80 = 79) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  unfold bodyPre bodyPost bodyAt0
  simp only [before0_0, before0_1, before0_2, before0_3, before0_4]
  rw [show (dats m 0 c).owesAt () t.succ = (dats m 0 c).owesAt () t.castSucc from rfl,
    leaves_live m c 0 t (liveAt0_0 t), leaves_live m c 1 t (liveAt0_1 t), leaves_live m c 2 t (liveAt0_2 t), leaves_live m c 3 t (liveAt0_3 t), leaves_live m c 4 t (liveAt0_4 t),
    leaves_live m c 5 t rfl, leaves_live m c 6 t rfl, leaves_idle7 m c t h1,
    after0_0, after0_1, after0_2, after0_3, after0_4, after0_5, after0_6]
  rw [show (dats m 0 c).Φ t.succ = PhiS m c (t.val + 1) t.isLt from rfl, PhiS_pos m c (t.val + 1) _ (Nat.succ_ne_zero _)]
  rw [PhiS_castSucc m c t, PhiS_pos m c _ _ (show t.val ≠ 0 by omega)]
  iintro ⟨⟨⟨⟨%S0, %hS0, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runB c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) S0 (KronC (iblk m c 3 t0)) (DtC (iblk m c 4 t0))).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%e6, H6⟩, H7, HS0, HS1, HS2, HS3, HS4, HS5⟩
  isplitl [HS0 HS1 HS2 HS3 HS4 HS5 Hg]
  · isplitl [HS0 HS1 HS2 HS3 HS4 HS5]
    · isplitl [HS0]
      · iexists _; isplitr
        swap
        · unfold owns; iexists _; isplitr
          swap; · iexact HS0
          ipureintro; rfl
        ipureintro
        rw [runB_rows']
        exact RowsOK_step m c t S0 hS0 _ _ ((Memref.isWhole_whole cc0_scratch0).read_unread S0)
      isplitl [HS1]
      · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; unfold yC; exact runB_readY _ _ _ _ _ _ _ _ _ _ _ _ _ _ _ _ _ _ _ _ _ _ _ _ _ _ _ _ _ _ _ _ _ _ _ _ _ _ _ _ _
  isplitl [H6]
  · unfold owns; iexists _; isplitr
    swap; · iexact H6
    ipureintro; exact runB_readCodes _ _ _ _ _ _ _ _ _ _ _ _ _ _ _ _ _ _ _ _ _ _ _ _ _ _ _ _ _ _ _ _ _ _ _ _ _ _ _ _ _
  iexact H7

set_option maxHeartbeats 9600000 in
/-- The body at the last point. -/
theorem sound_last (c : Dev nD) (t : Fin cfg0.N) (h0 : ¬t.val % 80 = 0) (h1 : t.val % 80 = 79) :
    bodyPre m c t ⊢ wp frame (wpE (defs₀ (F := F)) Variants.none c none) Set.univ (bodyAt0 t) (fun _ => bodyPost m c t) := by
  have hN : t.val < 80 := lt_of_lt_of_eq t.isLt (show cfg0.N = 80 from N_0)
  unfold bodyPre bodyPost bodyAt0
  simp only [before0_0, before0_1, before0_2, before0_3, before0_4]
  rw [show (dats m 0 c).owesAt () t.succ = (dats m 0 c).owesAt () t.castSucc from rfl,
    leaves_live m c 0 t (liveAt0_0 t), leaves_live m c 1 t (liveAt0_1 t), leaves_live m c 2 t (liveAt0_2 t), leaves_live m c 3 t (liveAt0_3 t), leaves_live m c 4 t (liveAt0_4 t),
    leaves_live m c 5 t rfl, leaves_live m c 6 t rfl, leaves_live m c 7 t (live0_7 t h1),
    after0_0, after0_1, after0_2, after0_3, after0_4, after0_5, after0_6, after0_7]
  rw [show (dats m 0 c).Φ t.succ = PhiS m c (t.val + 1) t.isLt from rfl, PhiS_pos m c (t.val + 1) _ (Nat.succ_ne_zero _)]
  rw [PhiS_castSucc m c t, PhiS_pos m c _ _ (show t.val ≠ 0 by omega)]
  iintro ⟨⟨⟨⟨%S0, %hS0, HS0⟩, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runC c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) S0 (KronC (iblk m c 3 t0)) (DtC (iblk m c 4 t0))).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, ⟨%e5, H5⟩, ⟨%e6, H6⟩, ⟨%e7, H7⟩, HS0, HS1, HS2, HS3, HS4, HS5⟩
  isplitl [HS0 HS1 HS2 HS3 HS4 HS5 Hg]
  · isplitl [HS0 HS1 HS2 HS3 HS4 HS5]
    · isplitl [HS0]
      · iexists _; isplitr
        swap
        · unfold owns; iexists _; isplitr
          swap; · iexact HS0
          ipureintro; rfl
        ipureintro
        rw [runC_rows']
        exact RowsOK_step m c t S0 hS0 _ _ ((Memref.isWhole_whole cc0_scratch0).read_unread S0)
      isplitl [HS1]
      · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; unfold yC; exact runC_readY _ _ _ _ _ _ _ _ _ _ _ _ _ _ _ _ _ _ _ _ _ _ _ _ _ _ _ _ _ _ _ _ _ _ _ _ _ _ _ _ _
  isplitl [H6]
  · unfold owns; iexists _; isplitr
    swap; · iexact H6
    ipureintro; exact runC_readCodes _ _ _ _ _ _ _ _ _ _ _ _ _ _ _ _ _ _ _ _ _ _ _ _ _ _ _ _ _ _ _ _ _ _ _ _ _ _ _ _ _
  unfold owns; iexists _; isplitr
  swap; · iexact H7
  ipureintro
  rw [runC_readS]
  exact SOut_scales m c _ (by
    have := RowsOK_step m c t S0 hS0 _ _ ((Memref.isWhole_whole cc0_scratch0).read_unread S0)
    rwa [show t.val + 1 = 80 by omega] at this)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 80 = 0
  · exact sound_first m c t h0 (by omega)
  by_cases h1 : t.val % 80 = 79
  · exact sound_last m c t h0 h1
  · exact sound_middle m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: what the scratch holds is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%S0, -, HS0⟩, HS1, HS2, HS3, HS4, HS5⟩, Hg⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexact HS3
    isplitl [HS4]
    · iexact HS4
    iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 80 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The run ends, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Body

end
-- ==== Proof.Body.Final.lean ====
module

public import proofs.«01_k».proof.Proof.Body.Data
public import Idealize.ShloMosaic.Lib.Pointwise
public import Idealize.ShloMosaic.Lib.Pipeline.Value
public import Idealize.ShloMosaic.Lib.Pipeline.FrameTail
public import Idealize.ShloMosaic.Lib.Pipeline.Value
public import Idealize.ShloMosaic.Lib.Pipeline.ValueKit.Basic
public import Idealize.ShloMosaic.Lib.WholeRead

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result arrays after the run -/

/-- The point whose block holds row `r` of the 20480. -/
def tOf (r : Fin 20480) : Fin cfg0.N := ⟨r.val / 256, by rw [show cfg0.N = 80 from N_0]; omega⟩

/-- A row's place in its block. -/
def rIn (r : Fin 20480) : Fin 256 := ⟨r.val % 256, Nat.mod_lt _ (by decide)⟩

/-- The result `y`: row `r` is row `r % 256` of what point `r / 256` leaves. -/
def G5 (c : Dev nD) : Buf (Elt F) ((c : Thread nD τ).loc main_v2_0) := fun i : S20480x8960.Idx =>
  yC m c (tOf ⟨(i 0).val, (i 0).isLt⟩) (ix2 (rIn ⟨(i 0).val, (i 0).isLt⟩) ⟨(i 1).val, (i 1).isLt⟩)

/-- The codes: row `r` is row `r % 256` of the codes of block `r / 256`. -/
def G6 (c : Dev nD) : Buf (Elt F) ((c : Thread nD τ).loc main_v2_1) := fun i : S20480x1536.Idx =>
  codesV (iblk m c 0 (tOf ⟨(i 0).val, (i 0).isLt⟩)) (ix2 (rIn ⟨(i 0).val, (i 0).isLt⟩) ⟨(i 1).val, (i 1).isLt⟩)

/-- The scales. -/
def G7 (c : Dev nD) : Buf (Elt F) ((c : Thread nD τ).loc main_v2_2) := scalesV m c

/-- The printed index map, decided over the grid: output window 5's block indices stay in the box, and the block number
    read off them is the point's (`t`). -/
theorem idx_facts5 : ∀ t : Fin cfg0.N, 0 ≤ win0_5.index t (0 : Fin 2) ∧ win0_5.index t (0 : Fin 2) ≤ 79
    ∧ 0 ≤ win0_5.index t (1 : Fin 2) ∧ win0_5.index t (1 : Fin 2) ≤ 0
    ∧ 1 * (win0_5.index t (0 : Fin 2) - 0) + 1 * (win0_5.index t (1 : Fin 2) - 0) = t.val :=
  (by decide +kernel : ∀ t : Fin grid0.N, _)

/-- Every block of the box is SOME flushing point's: `onto5Pt`, the point that writes back the block at place `q` of the box. -/
abbrev onto5Pt (q0 : Fin 80) (q1 : Fin 1) : Fin grid0.N :=
  ⟨1 * q0.val + 1 * q1.val, lt_of_lt_of_eq (by omega) N_0.symm⟩
theorem idx_onto5 : ∀ (q0 : Fin 80) (q1 : Fin 1), ∃ t : Fin cfg0.N, (cfg0.win 5).flush t = true ∧ win0_5.index t = ![q0.val + 0, q1.val + 0] :=
  fun q0 q1 => ⟨onto5Pt q0 q1, (by decide +kernel : ∀ (q0 : Fin 80) (q1 : Fin 1), win0_5.flush (onto5Pt q0 q1) = true ∧ win0_5.index (onto5Pt q0 q1) = ![q0.val + 0, q1.val + 0]) q0 q1⟩

/-- What a point writes back is its block of `G5`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5]
  obtain ⟨e0, e1, e2, e3, e4⟩ := idx_facts5 t
  funext y
  have hy0 : (y 0).val < 256 := (y 0).isLt
  have hy1 : (y 1).val < 8960 := (y 1).isLt
  have hb0 : (((cfg0.win 5).blk t).view.emb y 0).val = win0_5.index t (0 : Fin 2) * 256 + 1 * (y 0).val := rfl
  have hb1 : (((cfg0.win 5).blk t).view.emb y 1).val = win0_5.index t (1 : Fin 2) * 8960 + 1 * (y 1).val := rfl
  show (yC m c t : Vec F S256x8960 .bf16) ((cfg0.win 5).xinj (grid0.coords t) y) = G5 m c (((cfg0.win 5).blk t).view.emb y)
  unfold G5
  have ht : tOf ⟨(((cfg0.win 5).blk t).view.emb y 0).val, (((cfg0.win 5).blk t).view.emb y 0).isLt⟩ = t :=
    Fin.ext (show (((cfg0.win 5).blk t).view.emb y 0).val / 256 = t.val by rw [hb0]; omega)
  rw [ht]
  congr 1
  funext a; apply Fin.ext
  match a with
  | ⟨0, _⟩ => show (y 0).val = (((cfg0.win 5).blk t).view.emb y 0).val % 256; rw [hb0]; omega
  | ⟨1, _⟩ => show (y 1).val = (((cfg0.win 5).blk t).view.emb y 1).val; rw [hb1]; omega

/-- An index of the array is in point `t`'s block iff each coordinate is in the block's range on its axis. -/
theorem mem_blk5 (t : Fin cfg0.N) (i : S20480x8960.Idx) :
    i ∈ ((cfg0.win 5).blk t).view.set ↔ ∀ a : Fin 2, win0_5.index t a * S256x8960.size a ≤ (i a).val ∧ (i a).val < win0_5.index t a * S256x8960.size a + S256x8960.size a := by
  show i ∈ ((View.whole main_v2_0).slice (win0_5.rect t)).set ↔ _
  rw [View.set_slice_whole, Rect.mem_set_unit]
  exact Iff.rfl

/-- THE COVERED INDICES: in some flushing point's block iff inside the box those blocks fill. -/
theorem covered_iff5 (i : S20480x8960.Idx) :
    (∃ t : Fin cfg0.N, (cfg0.win 5).flush t = true ∧ i ∈ ((cfg0.win 5).blk t).view.set) ↔ 0 ≤ (i 0).val ∧ (i 0).val < 20480 ∧ 0 ≤ (i 1).val ∧ (i 1).val < 8960 := by
  constructor
  · rintro ⟨t, -, hi⟩
    rw [mem_blk5] at hi
    have b0 : win0_5.index t (0 : Fin 2) * 256 ≤ (i 0).val ∧ (i 0).val < win0_5.index t (0 : Fin 2) * 256 + 256 := hi 0
    have b1 : win0_5.index t (1 : Fin 2) * 8960 ≤ (i 1).val ∧ (i 1).val < win0_5.index t (1 : Fin 2) * 8960 + 8960 := hi 1
    obtain ⟨e0, e1, e2⟩ := idx_facts5 t
    omega
  · intro h
    have hi0 : (i 0).val < 20480 := (i 0).isLt
    have hi1 : (i 1).val < 8960 := (i 1).isLt
    obtain ⟨t, hft, ht⟩ := idx_onto5 ⟨(i 0).val / 256 - 0, by omega⟩ ⟨(i 1).val / 8960 - 0, by omega⟩
    have q0 : win0_5.index t (0 : Fin 2) = (i 0).val / 256 - 0 + 0 := congrFun ht 0
    have q1 : win0_5.index t (1 : Fin 2) = (i 1).val / 8960 - 0 + 0 := congrFun ht 1
    refine ⟨t, hft, ?_⟩
    rw [mem_blk5]
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 8960 ≤ (i 1).val ∧ (i 1).val < win0_5.index t (1 : Fin 2) * 8960 + 8960; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 20480 := (i 0).isLt; have h1 : (i 1).val < 8960 := (i 1).isLt; omega))

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 79
    ∧ 0 ≤ win0_6.index t (1 : Fin 2) ∧ win0_6.index t (1 : Fin 2) ≤ 0
    ∧ 1 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 80) (q1 : Fin 1) : Fin grid0.N :=
  ⟨1 * q0.val + 1 * q1.val, lt_of_lt_of_eq (by omega) N_0.symm⟩
theorem idx_onto6 : ∀ (q0 : Fin 80) (q1 : Fin 1), ∃ t : Fin cfg0.N, (cfg0.win 6).flush t = true ∧ win0_6.index t = ![q0.val + 0, q1.val + 0] :=
  fun q0 q1 => ⟨onto6Pt q0 q1, (by decide +kernel : ∀ (q0 : Fin 80) (q1 : Fin 1), win0_6.flush (onto6Pt q0 q1) = true ∧ win0_6.index (onto6Pt q0 q1) = ![q0.val + 0, q1.val + 0]) q0 q1⟩

/-- What a point writes back is its block of `G6`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  obtain ⟨e0, e1, e2, e3, e4⟩ := idx_facts6 t
  funext y
  have hy0 : (y 0).val < 256 := (y 0).isLt
  have hy1 : (y 1).val < 1536 := (y 1).isLt
  have hb0 : (((cfg0.win 6).blk t).view.emb y 0).val = win0_6.index t (0 : Fin 2) * 256 + 1 * (y 0).val := rfl
  have hb1 : (((cfg0.win 6).blk t).view.emb y 1).val = win0_6.index t (1 : Fin 2) * 1536 + 1 * (y 1).val := rfl
  show (codesV (iblk m c 0 t) : Vec F S256x1536 .fp8e4m3) ((cfg0.win 6).xinj (grid0.coords t) y) = G6 m c (((cfg0.win 6).blk t).view.emb y)
  unfold G6
  have ht : tOf ⟨(((cfg0.win 6).blk t).view.emb y 0).val, (((cfg0.win 6).blk t).view.emb y 0).isLt⟩ = t :=
    Fin.ext (show (((cfg0.win 6).blk t).view.emb y 0).val / 256 = t.val by rw [hb0]; omega)
  rw [ht]
  congr 1
  funext a; apply Fin.ext
  match a with
  | ⟨0, _⟩ => show (y 0).val = (((cfg0.win 6).blk t).view.emb y 0).val % 256; rw [hb0]; omega
  | ⟨1, _⟩ => show (y 1).val = (((cfg0.win 6).blk t).view.emb y 1).val; rw [hb1]; omega

/-- An index of the array is in point `t`'s block iff each coordinate is in the block's range on its axis. -/
theorem mem_blk6 (t : Fin cfg0.N) (i : S20480x1536.Idx) :
    i ∈ ((cfg0.win 6).blk t).view.set ↔ ∀ a : Fin 2, win0_6.index t a * S256x1536.size a ≤ (i a).val ∧ (i a).val < win0_6.index t a * S256x1536.size a + S256x1536.size a := by
  show i ∈ ((View.whole main_v2_1).slice (win0_6.rect t)).set ↔ _
  rw [View.set_slice_whole, Rect.mem_set_unit]
  exact Iff.rfl

/-- THE COVERED INDICES: in some flushing point's block iff inside the box those blocks fill. -/
theorem covered_iff6 (i : S20480x1536.Idx) :
    (∃ t : Fin cfg0.N, (cfg0.win 6).flush t = true ∧ i ∈ ((cfg0.win 6).blk t).view.set) ↔ 0 ≤ (i 0).val ∧ (i 0).val < 20480 ∧ 0 ≤ (i 1).val ∧ (i 1).val < 1536 := by
  constructor
  · rintro ⟨t, -, hi⟩
    rw [mem_blk6] at hi
    have b0 : win0_6.index t (0 : Fin 2) * 256 ≤ (i 0).val ∧ (i 0).val < win0_6.index t (0 : Fin 2) * 256 + 256 := hi 0
    have b1 : win0_6.index t (1 : Fin 2) * 1536 ≤ (i 1).val ∧ (i 1).val < win0_6.index t (1 : Fin 2) * 1536 + 1536 := hi 1
    obtain ⟨e0, e1, e2⟩ := idx_facts6 t
    omega
  · intro h
    have hi0 : (i 0).val < 20480 := (i 0).isLt
    have hi1 : (i 1).val < 1536 := (i 1).isLt
    obtain ⟨t, hft, ht⟩ := idx_onto6 ⟨(i 0).val / 256 - 0, by omega⟩ ⟨(i 1).val / 1536 - 0, by omega⟩
    have q0 : win0_6.index t (0 : Fin 2) = (i 0).val / 256 - 0 + 0 := congrFun ht 0
    have q1 : win0_6.index t (1 : Fin 2) = (i 1).val / 1536 - 0 + 0 := congrFun ht 1
    refine ⟨t, hft, ?_⟩
    rw [mem_blk6]
    intro a
    match a with
    | ⟨0, _⟩ => show win0_6.index t (0 : Fin 2) * 256 ≤ (i 0).val ∧ (i 0).val < win0_6.index t (0 : Fin 2) * 256 + 256; omega
    | ⟨1, _⟩ => show win0_6.index t (1 : Fin 2) * 1536 ≤ (i 1).val ∧ (i 1).val < win0_6.index t (1 : Fin 2) * 1536 + 1536; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 20480 := (i 0).isLt; have h1 : (i 1).val < 1536 := (i 1).isLt; omega))

/-- The printed index map, decided over the grid: output window 7's block indices stay in the box, and the block number
    read off them is the point's (`t / 80`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 0
    ∧ 1 * (win0_7.index t (0 : Fin 2) - 0) + 1 * (win0_7.index t (1 : Fin 2) - 0) = t.val / 80 :=
  (by decide +kernel : ∀ t : Fin grid0.N, _)

/-- Every block of the box is SOME flushing point's: `onto7Pt`, the point that writes back the block at place `q` of the box (the last point of its run). -/
abbrev onto7Pt (q0 : Fin 1) (q1 : Fin 1) : Fin grid0.N :=
  ⟨80 * (1 * q0.val + 1 * q1.val) + 79, lt_of_lt_of_eq (by omega) N_0.symm⟩
theorem idx_onto7 : ∀ (q0 : Fin 1) (q1 : Fin 1), ∃ t : Fin cfg0.N, (cfg0.win 7).flush t = true ∧ win0_7.index t = ![q0.val + 0, q1.val + 0] :=
  fun q0 q1 => ⟨onto7Pt q0 q1, (by decide +kernel : ∀ (q0 : Fin 1) (q1 : Fin 1), win0_7.flush (onto7Pt q0 q1) = true ∧ win0_7.index (onto7Pt q0 q1) = ![q0.val + 0, q1.val + 0]) q0 q1⟩

/-- What the last point writes back is the whole of `G7`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7]
  obtain ⟨e0, e1, e2, e3, e4⟩ := idx_facts7 t
  funext y
  have hb0 : (((cfg0.win 7).blk t).view.emb y 0).val = win0_7.index t (0 : Fin 2) * 32 + 1 * (y 0).val := rfl
  have hb1 : (((cfg0.win 7).blk t).view.emb y 1).val = win0_7.index t (1 : Fin 2) * 640 + 1 * (y 1).val := rfl
  show scalesV m c ((cfg0.win 7).xinj (grid0.coords t) y) = G7 m c (((cfg0.win 7).blk t).view.emb y)
  unfold G7
  congr 1
  funext a; apply Fin.ext
  match a with
  | ⟨0, _⟩ => show (y 0).val = (((cfg0.win 7).blk t).view.emb y 0).val; rw [hb0]; omega
  | ⟨1, _⟩ => show (y 1).val = (((cfg0.win 7).blk t).view.emb y 1).val; rw [hb1]; omega

/-- An index of the array is in point `t`'s block iff each coordinate is in the block's range on its axis. -/
theorem mem_blk7 (t : Fin cfg0.N) (i : S32x640.Idx) :
    i ∈ ((cfg0.win 7).blk t).view.set ↔ ∀ a : Fin 2, win0_7.index t a * S32x640.size a ≤ (i a).val ∧ (i a).val < win0_7.index t a * S32x640.size a + S32x640.size a := by
  show i ∈ ((View.whole main_v2_2).slice (win0_7.rect t)).set ↔ _
  rw [View.set_slice_whole, Rect.mem_set_unit]
  exact Iff.rfl

/-- THE COVERED INDICES: in some flushing point's block iff inside the box those blocks fill. -/
theorem covered_iff7 (i : S32x640.Idx) :
    (∃ t : Fin cfg0.N, (cfg0.win 7).flush t = true ∧ i ∈ ((cfg0.win 7).blk t).view.set) ↔ 0 ≤ (i 0).val ∧ (i 0).val < 32 ∧ 0 ≤ (i 1).val ∧ (i 1).val < 640 := by
  constructor
  · rintro ⟨t, -, hi⟩
    rw [mem_blk7] at hi
    have b0 : win0_7.index t (0 : Fin 2) * 32 ≤ (i 0).val ∧ (i 0).val < win0_7.index t (0 : Fin 2) * 32 + 32 := hi 0
    have b1 : win0_7.index t (1 : Fin 2) * 640 ≤ (i 1).val ∧ (i 1).val < win0_7.index t (1 : Fin 2) * 640 + 640 := hi 1
    obtain ⟨e0, e1, e2⟩ := idx_facts7 t
    omega
  · intro h
    have hi0 : (i 0).val < 32 := (i 0).isLt
    have hi1 : (i 1).val < 640 := (i 1).isLt
    obtain ⟨t, hft, ht⟩ := idx_onto7 ⟨(i 0).val / 32 - 0, by omega⟩ ⟨(i 1).val / 640 - 0, by omega⟩
    have q0 : win0_7.index t (0 : Fin 2) = (i 0).val / 32 - 0 + 0 := congrFun ht 0
    have q1 : win0_7.index t (1 : Fin 2) = (i 1).val / 640 - 0 + 0 := congrFun ht 1
    refine ⟨t, hft, ?_⟩
    rw [mem_blk7]
    intro a
    match a with
    | ⟨0, _⟩ => show win0_7.index t (0 : Fin 2) * 32 ≤ (i 0).val ∧ (i 0).val < win0_7.index t (0 : Fin 2) * 32 + 32; omega
    | ⟨1, _⟩ => show win0_7.index t (1 : Fin 2) * 640 ≤ (i 1).val ∧ (i 1).val < win0_7.index t (1 : Fin 2) * 640 + 640; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 32 := (i 0).isLt; have h1 : (i 1).val < 640 := (i 1).isLt; omega))

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_2) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run re-posted: each output array at its value, the arguments unchanged. -/
theorem run : θ_run defs (onTc (τ := τ) (main (F := F))) ⟨m, fun _ => 0, ρ⟩ fun r => ∀ c : Dev nD,
      r.2.mem ((c : Thread nD τ).loc main_v2_0) = G5 m c
      ∧ r.2.mem ((c : Thread nD τ).loc main_v2_1) = G6 m c
      ∧ r.2.mem ((c : Thread nD τ).loc main_v2_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

/-! ## The inputs' blocks -/

theorem V_main_v0 (c : Dev nD) : V m c main_v0 = shapeCast S20480x1536 (m ((c : Thread nD τ).loc main_arg0)) shapeCasts_S32x640x1536_S20480x1536 := by
  show StableHlo.after hostOps0 _ (Proc.devRef .tc main_v0) = _
  after_results
  rfl

theorem V_main_v1 (c : Dev nD) : V m c main_v1 = shapeCast S1x8960 (m ((c : Thread nD τ).loc main_arg2)) shapeCasts_S8960_S1x8960 := by
  show StableHlo.after hostOps0 _ (Proc.devRef .tc main_v1) = _
  after_results
  rfl

/-- Row `r` of `x` is row `r % 256` of block `r / 256`. -/
theorem idx0 : ∀ t : Fin cfg0.N, win0_0.index t (0 : Fin 2) = t.val ∧ win0_0.index t (1 : Fin 2) = 0 :=
  (by decide +kernel : ∀ t : Fin grid0.N, _)

theorem iblk0_apply (c : Dev nD) (t : Fin cfg0.N) (r : Fin 256) (k : Fin 1536) (R : Fin 20480) (hR : R.val = 256 * t.val + r.val) :
    (iblk m c 0 t : Vec F S256x1536 .bf16) (ix2 r k) = V m c main_v0 (ix2 R k) := by
  obtain ⟨e0, e1⟩ := idx0 t
  show V m c main_v0 (((cfg0.win 0).blk t).view.emb (ix2 r k)) = _
  congr 1
  funext a; apply Fin.ext
  match a with
  | ⟨0, _⟩ => show win0_0.index t (0 : Fin 2) * 256 + 1 * r.val = R.val; omega
  | ⟨1, _⟩ => show win0_0.index t (1 : Fin 2) * 1536 + 1 * k.val = k.val; omega

theorem iblk1_eq (c : Dev nD) (t : Fin cfg0.N) : (iblk m c 1 t : Vec F S8960x1536 .fp8e4m3) = V m c main_arg1 := by
  have e0 : win0_1.index t (0 : Fin 2) = 0 := rfl
  have e1 : win0_1.index t (1 : Fin 2) = 0 := rfl
  funext y
  show V m c main_arg1 (((cfg0.win 1).blk t).view.emb y) = _
  congr 1
  funext a; apply Fin.ext
  match a with
  | ⟨0, _⟩ => show win0_1.index t (0 : Fin 2) * 8960 + 1 * (y 0).val = (y 0).val; omega
  | ⟨1, _⟩ => show win0_1.index t (1 : Fin 2) * 1536 + 1 * (y 1).val = (y 1).val; omega

theorem iblk2_eq (c : Dev nD) (t : Fin cfg0.N) : (iblk m c 2 t : Vec F S1x8960 .f32) = V m c main_v1 := by
  have e0 : win0_2.index t (0 : Fin 2) = 0 := rfl
  have e1 : win0_2.index t (1 : Fin 2) = 0 := rfl
  funext y
  show V m c main_v1 (((cfg0.win 2).blk t).view.emb y) = _
  congr 1
  funext a; apply Fin.ext
  match a with
  | ⟨0, _⟩ => show win0_2.index t (0 : Fin 2) * 1 + 1 * (y 0).val = (y 0).val; omega
  | ⟨1, _⟩ => show win0_2.index t (1 : Fin 2) * 8960 + 1 * (y 1).val = (y 1).val; omega

theorem iblk3_eq (c : Dev nD) (t : Fin cfg0.N) : (iblk m c 3 t : Vec F S20x12 .bf16) = V m c main_arg3 := by
  have e0 : win0_3.index t (0 : Fin 2) = 0 := rfl
  have e1 : win0_3.index t (1 : Fin 2) = 0 := rfl
  funext y
  show V m c main_arg3 (((cfg0.win 3).blk t).view.emb y) = _
  congr 1
  funext a; apply Fin.ext
  match a with
  | ⟨0, _⟩ => show win0_3.index t (0 : Fin 2) * 20 + 1 * (y 0).val = (y 0).val; omega
  | ⟨1, _⟩ => show win0_3.index t (1 : Fin 2) * 12 + 1 * (y 1).val = (y 1).val; omega

theorem iblk4_eq (c : Dev nD) (t : Fin cfg0.N) : (iblk m c 4 t : Vec F S448x128 .bf16) = V m c main_arg4 := by
  have e0 : win0_4.index t (0 : Fin 2) = 0 := rfl
  have e1 : win0_4.index t (1 : Fin 2) = 0 := rfl
  funext y
  show V m c main_arg4 (((cfg0.win 4).blk t).view.emb y) = _
  congr 1
  funext a; apply Fin.ext
  match a with
  | ⟨0, _⟩ => show win0_4.index t (0 : Fin 2) * 448 + 1 * (y 0).val = (y 0).val; omega
  | ⟨1, _⟩ => show win0_4.index t (1 : Fin 2) * 128 + 1 * (y 1).val = (y 1).val; omega

end Cert.Body

end
-- ==== Proof.Body.Quant.lean ====
module

public import Idealize.ShloMosaic.PureOps.Ideal
public import Idealize.ShloMosaic.Lib.Pointwise

@[expose] public section

noncomputable section

/-! # The row scale: the kernel's binary search for the exponent against the reference's logarithm

Both programs round a row's `q = max |x| / 448` up to a power of two. The kernel finds the exponent field of `q` one
bit at a time, comparing with the powers of two; the reference takes `⌊log q / log 2⌋ + 1`. On a nonnegative real
`q < 2^120` the two agree (`scale_eq`, `inv_eq`). -/

namespace Cert.Body

open Idealize.ShloMosaic

/-- One step of the kernel's search: keep `f + b` when the power of two of that field is at most `q`. -/
def fieldStep (q : EReal) (b f : BitVec 32) : BitVec 32 :=
  Scalar.select (Ideal.cmp .olt q (Ideal.ofBits .f32 (IntOp.shli .vector (IntOp.addi f b) 23#32))) f (IntOp.addi f b)

/-- The field the kernel's search finds for `q`. -/
def field (q : EReal) : BitVec 32 :=
  fieldStep q 1#32 (fieldStep q 2#32 (fieldStep q 4#32 (fieldStep q 8#32 (fieldStep q 16#32 (fieldStep q 32#32
    (fieldStep q 64#32 (fieldStep q 128#32 0#32)))))))

/-- The exponent the kernel takes from the field: `0` for the field `0`, else the field less `126`. -/
def kexp (q : EReal) : BitVec 32 :=
  Scalar.select (IntOp.cmpi .eq (field q) 0#32) 0#32 (IntOp.subi (field q) 126#32)

/-- The kernel's scale: the number whose exponent field is `127 + e`. -/
def kscale (q : EReal) : EReal := Ideal.ofBits .f32 (IntOp.shli .vector (IntOp.addi 127#32 (kexp q)) 23#32)

/-- The kernel's inverse scale: the number whose exponent field is `127 - e`. -/
def kinv (q : EReal) : EReal := Ideal.ofBits .f32 (IntOp.shli .vector (IntOp.subi 127#32 (kexp q)) 23#32)

/-- The reference's exponent. -/
def rexp (q : EReal) : EReal :=
  Scalar.select (Ideal.cmp .olt q (Ideal.ofBits .f32 0x00800000#32)) (Ideal.ofBits .f32 0x00000000#32)
    (Ideal.liftRound Int.floor (Ideal.div (Ideal.log q) (Ideal.log (Ideal.ofBits .f32 0x40000000#32)))
      + Ideal.ofBits .f32 0x3F800000#32)

theorem bits_of_field : ∀ n : Fin 256, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

/-- A pattern of positive sign, exponent field `n` and no fraction, `1 ≤ n ≤ 254`, denotes `2^(n - 127)`. -/
theorem ofBits_of_fields (w : BitVec 32) (n : ℕ) (a : w.extractLsb' 31 1 = 0#1) (b : (w.extractLsb' 23 8).toNat = n)
    (c : (w.extractLsb' 0 23).toNat = 0) (h1 : 1 ≤ n) (h2 : n ≤ 254) :
    Ideal.ofBits .f32 w = (((2 : ℝ) ^ ((n : ℤ) - 127) : ℝ) : EReal) := by
  rw [Ideal.ofBits, Ideal.ieee, show (8 + 23 : ℕ) = 31 from rfl, a, b, c]
  rw [if_neg (by norm_num; omega), if_neg (by omega)]
  congr 1
  rw [show ((2 ^ 23 + 0 : ℕ) : ℝ) = (2 : ℝ) ^ (23 : ℤ) by norm_num, if_neg (by decide), one_mul,
    ← zpow_add₀ (by norm_num)]
  congr 1
  norm_num

/-- The number with exponent field `n`, `1 ≤ n ≤ 254`, and no fraction is `2^(n - 127)`. -/
theorem ofBits_field (n : ℕ) (h1 : 1 ≤ n) (h2 : n ≤ 254) :
    Ideal.ofBits .f32 (BitVec.ofNat 32 n <<< 23) = (((2 : ℝ) ^ ((n : ℤ) - 127) : ℝ) : EReal) := by
  obtain ⟨a, b, c⟩ := bits_of_field ⟨n, by omega⟩
  exact ofBits_of_fields _ n a b c h1 h2

/-- The pattern of positive sign, exponent field `255` and no fraction is `+∞`. -/
theorem ofBits_of_fields_top (w : BitVec 32) (a : w.extractLsb' 31 1 = 0#1) (b : (w.extractLsb' 23 8).toNat = 255)
    (c : (w.extractLsb' 0 23).toNat = 0) : Ideal.ofBits .f32 w = ⊤ := by
  rw [Ideal.ofBits, Ideal.ieee, show (8 + 23 : ℕ) = 31 from rfl, a, b, c]
  rw [if_pos (by norm_num), if_pos rfl, if_neg (by decide)]

theorem ofBits_field_top : Ideal.ofBits .f32 (BitVec.ofNat 32 255 <<< 23) = ⊤ := by
  obtain ⟨a, b, c⟩ := bits_of_field ⟨255, by omega⟩
  exact ofBits_of_fields_top _ a b c

/-- The binary logarithm of `q`, rounded down. -/
def lg (q : ℝ) : ℤ := ⌊Real.log q / Real.log 2⌋

/-- The exponent field of a real `q`: `0` below the least normal number, else `127 + ⌊log₂ q⌋`. -/
def trueField (q : ℝ) : ℕ := if q < (2 : ℝ) ^ (-126 : ℤ) then 0 else (lg q + 127).toNat

theorem log_lt (q : ℝ) (hq : 0 < q) (n : ℤ) : q < (2 : ℝ) ^ n ↔ lg q < n := by
  have h2 : 0 < Real.log 2 := Real.log_pos (by norm_num)
  rw [lg, Int.floor_lt, div_lt_iff₀ h2, ← Real.log_zpow, Real.log_lt_log_iff hq (by positivity)]

theorem log_ge (q : ℝ) (h : (2 : ℝ) ^ (-126 : ℤ) ≤ q) : -126 ≤ lg q := by
  have hq : 0 < q := lt_of_lt_of_le (by positivity) h
  by_contra hc
  exact absurd ((log_lt q hq (-126)).2 (by omega)) (not_lt.2 h)

/-- Comparing `q` with the number of field `n` is comparing the fields. -/
theorem lt_field (q : ℝ) (hq : q < (2 : ℝ) ^ (120 : ℤ)) (n : ℕ) (h1 : 1 ≤ n) (h2 : n ≤ 255) :
    (q : EReal) < Ideal.ofBits .f32 (BitVec.ofNat 32 n <<< 23) ↔ trueField q < n := by
  unfold trueField
  rcases Nat.lt_or_ge n 255 with hn | hn
  · rw [ofBits_field n h1 (by omega), EReal.coe_lt_coe_iff]
    split_ifs with h
    · refine iff_of_true (lt_of_lt_of_le h ?_) (by omega)
      exact zpow_le_zpow_right₀ (by norm_num) (by omega)
    · have h := not_lt.1 h
      have hq0 : 0 < q := lt_of_lt_of_le (by positivity) h
      have := log_ge q h
      rw [log_lt q hq0]; omega
  · obtain rfl : n = 255 := by omega
    rw [ofBits_field_top]
    refine iff_of_true (EReal.coe_lt_top q) ?_
    split_ifs with h
    · omega
    · have h := not_lt.1 h
      have hq0 : 0 < q := lt_of_lt_of_le (by positivity) h
      have := log_ge q h
      have := (log_lt q hq0 _).1 hq
      omega

/-- One step halves the interval in which the field lies. -/
theorem fieldStep_spec (q : ℝ) (hq : q < (2 : ℝ) ^ (120 : ℤ)) (b f : ℕ) (hb : 1 ≤ b) (hf : f + 2 * b ≤ 256)
    (h0 : f ≤ trueField q) (h1 : trueField q < f + 2 * b) :
    ∃ f', fieldStep q (BitVec.ofNat 32 b) (BitVec.ofNat 32 f) = BitVec.ofNat 32 f' ∧ f' + b ≤ 256 ∧ f' ≤ trueField q
      ∧ trueField q < f' + b := by
  have hadd : IntOp.addi (BitVec.ofNat 32 f) (BitVec.ofNat 32 b) = BitVec.ofNat 32 (f + b) := by
    simp [IntOp.addi, BitVec.ofNat_add]
  have hsh : IntOp.shli .vector (BitVec.ofNat 32 (f + b)) 23#32 = BitVec.ofNat 32 (f + b) <<< 23 := by
    simp [IntOp.shli]
  have key := lt_field q hq (f + b) (by omega) (by omega)
  unfold fieldStep
  rw [hadd, hsh]
  by_cases h : trueField q < f + b
  · refine ⟨f, ?_, by omega, h0, h⟩
    simp [Ideal.cmp, key.2 h, Scalar.select]
  · refine ⟨f + b, ?_, by omega, by omega, by omega⟩
    have : ¬ (q : EReal) < Ideal.ofBits .f32 (BitVec.ofNat 32 (f + b) <<< 23) := fun hh => h (key.1 hh)
    simp [Ideal.cmp, this, Scalar.select]

theorem trueField_lt (q : ℝ) (hq : q < (2 : ℝ) ^ (120 : ℤ)) : trueField q < 247 := by
  unfold trueField
  split_ifs with h
  · omega
  · have h := not_lt.1 h
    have hq0 : 0 < q := lt_of_lt_of_le (by positivity) h
    have := (log_lt q hq0 _).1 hq
    omega

/-- The search finds the field. -/
theorem field_eq (q : ℝ) (hq : q < (2 : ℝ) ^ (120 : ℤ)) : field q = BitVec.ofNat 32 (trueField q) := by
  have hl := trueField_lt q hq
  obtain ⟨f1, e1, a1, b1, c1⟩ := fieldStep_spec q hq 128 0 (by omega) (by omega) (by omega) (by omega)
  obtain ⟨f2, e2, a2, b2, c2⟩ := fieldStep_spec q hq 64 f1 (by omega) (by omega) (by omega) (by omega)
  obtain ⟨f3, e3, a3, b3, c3⟩ := fieldStep_spec q hq 32 f2 (by omega) (by omega) (by omega) (by omega)
  obtain ⟨f4, e4, a4, b4, c4⟩ := fieldStep_spec q hq 16 f3 (by omega) (by omega) (by omega) (by omega)
  obtain ⟨f5, e5, a5, b5, c5⟩ := fieldStep_spec q hq 8 f4 (by omega) (by omega) (by omega) (by omega)
  obtain ⟨f6, e6, a6, b6, c6⟩ := fieldStep_spec q hq 4 f5 (by omega) (by omega) (by omega) (by omega)
  obtain ⟨f7, e7, a7, b7, c7⟩ := fieldStep_spec q hq 2 f6 (by omega) (by omega) (by omega) (by omega)
  obtain ⟨f8, e8, a8, b8, c8⟩ := fieldStep_spec q hq 1 f7 (by omega) (by omega) (by omega) (by omega)
  unfold field
  rw [e1, e2, e3, e4, e5, e6, e7, e8]
  congr 1
  omega

/-- The exponent, as an integer. -/
def texp (q : ℝ) : ℤ := if q < (2 : ℝ) ^ (-126 : ℤ) then 0 else lg q + 1

theorem texp_bounds (q : ℝ) (hq : q < (2 : ℝ) ^ (120 : ℤ)) : -125 ≤ texp q ∧ texp q ≤ 120 := by
  unfold texp
  split_ifs with h
  · omega
  · have h := not_lt.1 h
    have hq0 : 0 < q := lt_of_lt_of_le (by positivity) h
    have := (log_lt q hq0 _).1 hq
    have := log_ge q h
    omega

theorem kexp_eq (q : ℝ) (hq : q < (2 : ℝ) ^ (120 : ℤ)) : kexp q = BitVec.ofInt 32 (texp q) := by
  have hl := trueField_lt q hq
  unfold kexp
  rw [field_eq q hq]
  unfold trueField texp at *
  split_ifs with h
  · rfl
  · have h := not_lt.1 h
    rw [if_neg (not_lt.2 h)] at hl
    have := log_ge q h
    obtain ⟨n, hn⟩ : ∃ n : ℕ, lg q + 126 = n := ⟨(lg q + 126).toNat, by omega⟩
    have e1 : (lg q + 127).toNat = n + 1 := by omega
    have e2 : lg q + 1 = (n : ℤ) - 125 := by omega
    rw [e1] at hl ⊢
    rw [e2]
    have hn' : n < 246 := by omega
    have hd : ∀ n : Fin 246, Scalar.select (IntOp.cmpi .eq (BitVec.ofNat 32 (n.val + 1)) 0#32) 0#32
        (IntOp.subi (BitVec.ofNat 32 (n.val + 1)) 126#32) = BitVec.ofInt 32 ((n.val : ℤ) - 125) := by decide +kernel
    exact hd ⟨n, hn'⟩

theorem add_bits : ∀ n : Fin 246, IntOp.shli .vector (IntOp.addi 127#32 (BitVec.ofInt 32 ((n.val : ℤ) - 125))) 23#32
      = BitVec.ofNat 32 (n.val + 2) <<< 23
    ∧ IntOp.shli .vector (IntOp.subi 127#32 (BitVec.ofInt 32 ((n.val : ℤ) - 125))) 23#32
      = BitVec.ofNat 32 (252 - n.val) <<< 23 := by decide +kernel

/-- The kernel's scale is the power of two. -/
theorem kscale_eq (q : ℝ) (hq : q < (2 : ℝ) ^ (120 : ℤ)) : kscale q = (((2 : ℝ) ^ texp q : ℝ) : EReal) := by
  obtain ⟨h1, h2⟩ := texp_bounds q hq
  unfold kscale
  rw [kexp_eq q hq]
  obtain ⟨n, hn⟩ : ∃ n : ℕ, texp q + 125 = n := ⟨(texp q + 125).toNat, by omega⟩
  have e : texp q = (n : ℤ) - 125 := by omega
  rw [e, (add_bits ⟨n, by omega⟩).1, ofBits_field _ (by simp) (by simp only []; omega)]
  congr 2
  push_cast; ring

/-- The kernel's inverse scale is the inverse power of two. -/
theorem kinv_eq (q : ℝ) (hq : q < (2 : ℝ) ^ (120 : ℤ)) : kinv q = (((2 : ℝ) ^ (-texp q) : ℝ) : EReal) := by
  obtain ⟨h1, h2⟩ := texp_bounds q hq
  unfold kinv
  rw [kexp_eq q hq]
  obtain ⟨n, hn⟩ : ∃ n : ℕ, texp q + 125 = n := ⟨(texp q + 125).toNat, by omega⟩
  have e : texp q = (n : ℤ) - 125 := by omega
  have hn' : n ≤ 245 := by omega
  rw [e, (add_bits ⟨n, by omega⟩).2, ofBits_field _ (by simp only []; omega) (by simp only []; omega)]
  congr 2
  simp only []
  omega

theorem ofBits_two : Ideal.ofBits .f32 0x40000000#32 = ((2 : ℝ) : EReal) := by
  have := ofBits_field 128 (by omega) (by omega)
  rw [show (0x40000000#32 : BitVec 32) = BitVec.ofNat 32 128 <<< 23 by decide]
  rw [this]; norm_num

theorem ofBits_tiny : Ideal.ofBits .f32 0x00800000#32 = (((2 : ℝ) ^ (-126 : ℤ) : ℝ) : EReal) := by
  have := ofBits_field 1 (by omega) (by omega)
  rw [show (0x00800000#32 : BitVec 32) = BitVec.ofNat 32 1 <<< 23 by decide]
  rw [this]; norm_num

theorem ofBits_half : Ideal.ofBits .f32 0x3F000000#32 = ((1 / 2 : ℝ) : EReal) := by
  have := ofBits_field 126 (by omega) (by omega)
  rw [show (0x3F000000#32 : BitVec 32) = BitVec.ofNat 32 126 <<< 23 by decide]
  rw [this]; norm_num

theorem ofBits_half_bf16 : Ideal.ofBits .bf16 0x3F00#16 = ((1 / 2 : ℝ) : EReal) := by
  simp [Ideal.ofBits, Ideal.ieee, -EReal.coe_mul]; norm_num

/-- The reference's exponent is the same integer. -/
theorem rexp_eq (q : ℝ) : rexp q = ((texp q : ℝ) : EReal) := by
  unfold rexp texp
  rw [ofBits_tiny, ofBits_two, Ideal.ofBits_zero_f32, Ideal.ofBits_one_f32]
  by_cases h : q < (2 : ℝ) ^ (-126 : ℤ)
  · rw [if_pos h]
    have : (q : EReal) < (((2 : ℝ) ^ (-126 : ℤ) : ℝ) : EReal) := EReal.coe_lt_coe_iff.2 h
    have hc : Ideal.cmp .olt (q : EReal) (((2 : ℝ) ^ (-126 : ℤ) : ℝ) : EReal) = 1#1 := by
      simp only [Ideal.cmp]; rw [decide_eq_true this]; rfl
    rw [hc]
    simp [Scalar.select]
  · rw [if_neg h]
    have h' := not_lt.1 h
    have hq0 : 0 < q := lt_of_lt_of_le (by positivity) h'
    have hn : ¬ (q : EReal) < (((2 : ℝ) ^ (-126 : ℤ) : ℝ) : EReal) := fun hh => h (EReal.coe_lt_coe_iff.1 hh)
    have hlog2 : Real.log 2 ≠ 0 := (Real.log_pos (by norm_num)).ne'
    have e : Ideal.liftRound Int.floor (Ideal.div (Ideal.log (q : EReal)) (Ideal.log ((2 : ℝ) : EReal)))
        = ((lg q : ℝ) : EReal) := by
      rw [Ideal.log_coe, Ideal.log_coe, if_neg (not_le.2 hq0), if_neg (by norm_num), Ideal.div_coe hlog2,
        ← EReal.coe_mul, Ideal.liftRound_coe]
      rw [one_div, ← div_eq_mul_inv, lg]
    rw [e]
    have hc : Ideal.cmp .olt (q : EReal) (((2 : ℝ) ^ (-126 : ℤ) : ℝ) : EReal) = 0#1 := by
      simp only [Ideal.cmp]; rw [decide_eq_false hn]; rfl
    rw [hc]
    simp only [Scalar.select]
    rw [if_neg (by decide), ← EReal.coe_one, ← EReal.coe_add]
    push_cast
    rfl

/-- The two scales agree. -/
theorem scale_eq (q : ℝ) (hq : q < (2 : ℝ) ^ (120 : ℤ)) : kscale q = Ideal.exp2 (rexp q) := by
  rw [kscale_eq q hq, rexp_eq, Ideal.exp2_coe]
  congr 1
  exact (Real.rpow_intCast 2 _).symm

/-- The two inverse scales agree. -/
theorem inv_eq (q : ℝ) (hq : q < (2 : ℝ) ^ (120 : ℤ)) : kinv q = Ideal.exp2 (0 - rexp q) := by
  rw [kinv_eq q hq, rexp_eq, ← EReal.coe_zero, ← EReal.coe_sub, Ideal.exp2_coe]
  congr 1
  have := (Real.rpow_intCast 2 (-texp q)).symm
  rw [this]
  push_cast
  rw [zero_sub]
  rfl

/-- A scale is a positive real. -/
theorem scale_pos (q : ℝ) (hq : q < (2 : ℝ) ^ (120 : ℤ)) : ∃ s : ℝ, 0 < s ∧ Ideal.exp2 (rexp q) = s :=
  ⟨_, by positivity, (scale_eq q hq).symm.trans (kscale_eq q hq)⟩

end Cert.Body
-- ==== Proof.Body.IdKron.lean ====
module

public import proofs.«01_k».proof.Proof.Body.Lists
public import proofs.«01_k».proof.Proof.Body.Quant
public import Idealize.ShloMosaic.Lib.Pointwise

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The Kronecker factor at an index -/

/-- The row of `c` that the block `i` of sixteen rows of the Kronecker factor holds. -/
def aOf (i : ℕ) : ℕ := if i < 10 then 2 * i else 2 * (i - 10) + 1

theorem cmpi_ofNat (m n : ℕ) (hm : m < 2 ^ 32) (hn : n < 2 ^ 32) :
    IntOp.cmpi .eq (BitVec.ofNat 32 m) (BitVec.ofNat 32 n) = if m = n then 1#1 else 0#1 := by
  have : (BitVec.ofNat 32 m = BitVec.ofNat 32 n) ↔ m = n := by
    constructor
    · intro h
      have := congrArg BitVec.toNat h
      rwa [BitVec.toNat_ofNat, BitVec.toNat_ofNat, Nat.mod_eq_of_lt hm, Nat.mod_eq_of_lt hn] at this
    · intro h; rw [h]
  unfold IntOp.cmpi
  by_cases h : m = n
  · simp [h]
  · rw [if_neg h]
    show BitVec.ofBool (BitVec.ofNat 32 m == BitVec.ofNat 32 n) = 0#1
    rw [beq_eq_false_iff_ne.mpr (fun e => h (this.mp e))]
    rfl

/-- A comparison's bit as a number. -/
theorem sitofp_bit (φ : FTy) (P : Prop) [Decidable P] :
    (FloatOps.sitofp φ (BitVec.setWidth 32 (if P then 1#1 else 0#1)) : Ideal φ) = if P then (1 : EReal) else 0 := by
  show ((((BitVec.setWidth 32 (if P then 1#1 else 0#1)).toInt : ℝ) : EReal)) = _
  split_ifs <;> simp

theorem pay2_apply (r : Fin 320) (a : Fin 20) : k0_pay2 (ix2 r a) = if aOf (r.val / 16) = a.val then 1#1 else 0#1 := by
  pointwise [k0_pay2]
  refine (congrArg (fun A => IntOp.cmpi .eq A (BitVec.ofNat 32 a.val)) (?_ : _ = BitVec.ofNat 32 (aOf (r.val / 16)))).trans ?_
  · clear a
    revert r
    decide +kernel
  · exact cmpi_ofNat _ _ (by unfold aOf; split_ifs <;> omega) (by omega)

theorem pay6_apply (C : Vec Ideal S20x12 .bf16) (r : Fin 320) (x : Fin 192) (a : Fin 20) (p : Fin 12) (ha : a.val = aOf (r.val / 16)) (hp : p.val = x.val / 16) :
    k0_pay6 (F := Ideal) k0_pay2 (iota .tc S12x192 32 [1] iota_S12x192_d1_w32) 16#32 k0_pay3 k0_pay4 k0_pay5 C (ix2 r x) = C (ix2 a p) := by
  have h1 : ∀ p' : Fin 12, (∑ a', FloatOps.sitofp (F := Ideal) FTy.f32 (BitVec.setWidth 32 (k0_pay2 (ix2 r a'))) * C (ix2 a' p')) = C (ix2 a p') := by
    intro p'
    rw [Finset.sum_eq_single a]
    · rw [pay2_apply, sitofp_bit, if_pos ha.symm]; exact one_mul _
    · intro a' _ hne
      rw [pay2_apply, sitofp_bit, if_neg (fun h => hne (Fin.ext (h.symm.trans ha.symm)))]; exact zero_mul _
    · intro h; exact absurd (Finset.mem_univ _) h
  pointwise [k0_pay6, k0_pay3, k0_pay4, k0_pay5]
  refine (Finset.sum_congr rfl fun p' _ => congrArg₂ (· * ·) (h1 p') ((congrArg (fun A => FloatOps.sitofp (F := Ideal) FTy.f32 (BitVec.setWidth 32 (IntOp.cmpi .eq A (BitVec.ofNat 32 p'.val))))
    (?_ : _ = BitVec.ofNat 32 (x.val / 16))).trans (congrArg (fun A => FloatOps.sitofp (F := Ideal) FTy.f32 (BitVec.setWidth 32 A))
      (cmpi_ofNat (x.val / 16) p'.val (by omega) (by omega))))).trans ?_
  · clear h1 hp
    clear * -
    revert x
    decide +kernel
  · rw [Finset.sum_eq_single p]
    · rw [sitofp_bit, if_pos hp.symm]; exact mul_one _
    · intro p' _ hne
      rw [sitofp_bit, if_neg (fun h => hne (Fin.ext (h.symm.trans hp.symm)))]; exact mul_zero _
    · intro h; exact absurd (Finset.mem_univ _) h

theorem pay10_apply (v : FVec Ideal S320x192 .f32) (r : Fin 320) (x : Fin 192) :
    k0_pay10 v k0_pay7 k0_pay8 k0_pay9 (ix2 r x) = if r.val % 16 = x.val % 16 then Ideal.ofBits .f32 0x3F000000#32 * v (ix2 r x) else 0 := by
  pointwise [k0_pay10, k0_pay7, k0_pay8, k0_pay9]
  have hr : ∀ n : Fin 320, (Scalar.select
          (IntOp.andi
            (IntOp.xori
              (IntOp.cmpi CmpIPredicate.slt
                (IntOp.remsi ArithUnit.vector (BitVec.ofNat 32 n.val)
                  (Scalar.select (Scalar.cmpi CmpIPredicate.eq 16#32 0#32) 1#32 16#32))
                0#32)
              (Scalar.cmpi CmpIPredicate.slt (Scalar.select (Scalar.cmpi CmpIPredicate.eq 16#32 0#32) 1#32 16#32) 0#32))
            (IntOp.cmpi CmpIPredicate.ne
              (IntOp.remsi ArithUnit.vector (BitVec.ofNat 32 n.val)
                (Scalar.select (Scalar.cmpi CmpIPredicate.eq 16#32 0#32) 1#32 16#32))
              0#32))
          (IntOp.addi
            (IntOp.remsi ArithUnit.vector (BitVec.ofNat 32 n.val)
              (Scalar.select (Scalar.cmpi CmpIPredicate.eq 16#32 0#32) 1#32 16#32))
            (Scalar.select (Scalar.cmpi CmpIPredicate.eq 16#32 0#32) 1#32 16#32))
          (IntOp.remsi ArithUnit.vector (BitVec.ofNat 32 n.val)
            (Scalar.select (Scalar.cmpi CmpIPredicate.eq 16#32 0#32) 1#32 16#32))) = BitVec.ofNat 32 (n.val % 16) := by decide +kernel
  have hx := hr ⟨x.val, by omega⟩
  rw [hr r, hx, cmpi_ofNat _ _ (by omega) (by omega)]
  split_ifs <;> rfl

/-- The Kronecker factor's entry: half of `c`'s where the rows within the blocks of sixteen agree, else zero. -/
theorem kronV_apply (C : Vec Ideal S20x12 .bf16) (r : Fin 320) (x : Fin 192) (a : Fin 20) (p : Fin 12) (ha : a.val = aOf (r.val / 16)) (hp : p.val = x.val / 16) :
    kronV C (ix2 r x) = if r.val % 16 = x.val % 16 then Ideal.ofBits .f32 0x3F000000#32 * C (ix2 a p) else 0 := by
  rw [kronV, pay10_apply, pay6_apply C r x a p ha hp]

end Cert.Body

end
-- ==== Proof.Body.IdY.lean ====
module

public import proofs.«01_k».proof.Proof.Body.Clean
public import proofs.«01_k».proof.Proof.Body.IdKron
public import proofs.«01_k».proof.Proof.Body.Quant
public import Idealize.ShloMosaic.Lib.Pointwise

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The products at an index -/

/-- `d` transposed and padded with zeros to the right. -/
def dn (d : Vec Ideal S448x128 .bf16) (w : ℕ) (q : Fin 128) : EReal := if h : w < 448 then d (ix2 ⟨w, h⟩ q) else 0

/-- `c`'s entry in row `a`. -/
def cn (c : Vec Ideal S20x12 .bf16) (a : ℕ) (p : Fin 12) : EReal := if h : a < 20 then c (ix2 ⟨a, h⟩ p) else 0

/-- The first product for a row of codes `x`: column `w` of the twelfth `p`. -/
def Tn (x : Fin 1536 → EReal) (d : Vec Ideal S448x128 .bf16) (p : Fin 12) (w : ℕ) : EReal :=
  ∑ q : Fin 128, x ⟨128 * p.val + q.val, by omega⟩ * dn d w q

/-- The adapter's value for a row of codes `x`: half the second product, column `w` of the block `a`. -/
def Un (c : Vec Ideal S20x12 .bf16) (x : Fin 1536 → EReal) (d : Vec Ideal S448x128 .bf16) (a w : ℕ) : EReal :=
  ∑ p : Fin 12, Ideal.ofBits .f32 0x3F000000#32 * cn c a p * Tn x d p w

theorem Tn_zero (x : Fin 1536 → EReal) (d : Vec Ideal S448x128 .bf16) (p : Fin 12) (w : ℕ) (hw : 448 ≤ w) : Tn x d p w = 0 := by
  unfold Tn dn
  refine Finset.sum_eq_zero fun q _ => ?_
  rw [dif_neg (by omega), mul_zero]

theorem Un_zero (c : Vec Ideal S20x12 .bf16) (x : Fin 1536 → EReal) (d : Vec Ideal S448x128 .bf16) (a w : ℕ) (hw : 448 ≤ w) : Un c x d a w = 0 := by
  unfold Un
  refine Finset.sum_eq_zero fun p _ => ?_
  rw [Tn_zero x d p w hw, mul_zero]

theorem tV_apply (codes : FVec Ideal S256x1536 .fp8e4m3) (D : Vec Ideal S128x512 .bf16) (p : Fin 12) (r : Fin 256) (w : Fin 512) :
    tV codes D p (ix2 r w) = ∑ q : Fin 128, codes (ix2 r ⟨128 * p.val + q.val, by omega⟩) * D (ix2 q w) := by
  pointwise [tV]

theorem t2V_apply (t : FVec Ideal S256x512 .bf16) (r : Fin 256) (w : Fin 512) :
    dynamicRotate 1 64#32 none t rotates_S256x512_d1 (ix2 r w) = t (ix2 r ⟨(w.val + 512 - 64) % 512, Nat.mod_lt _ (by decide)⟩) := by
  pointwise

theorem uV_apply (te : Vec Ideal S12x16x512 .bf16) (ke : Vec Ideal S160x192 .bf16) (i : Fin 10) (g : Fin 16) (w : Fin 512) :
    uV te ke (ix3 i g w) = ∑ x : Fin 192, ke (ix2 ⟨i.val * 16 + g.val, by omega⟩ x) * te (ix3 ⟨x.val / 16, by omega⟩ ⟨x.val % 16, by omega⟩ w) := by
  pointwise [uV]

theorem yV_apply (codes : FVec Ideal S256x1536 .fp8e4m3) (scale : FVec Ideal S256x1 .f32) (w : Vec Ideal S256x1536 .fp8e4m3) (ws : Vec Ideal S1x256 .f32)
    (u : Vec Ideal S256x256 .f32) (r l : Fin 256) :
    yV codes scale w ws u (ix2 r l) = ((∑ k, codes (ix2 r k) * w (ix2 l k)) * ws (ix2 0 l) + u (ix2 r l)) * scale (ix2 r 0) := by
  pointwise [yV, k0_pay1]

theorem dt12_apply (d : Vec Ideal S448x128 .bf16) (q : Fin 128) (o : Fin 448) : k0_pay12 d (ix2 q o) = d (ix2 o q) := by
  pointwise [k0_pay12]

theorem dt11_apply (q : Fin 128) (o : Fin 512) : k0_pay11 (F := Ideal) (ix2 q o) = 0 := by
  pointwise [k0_pay11]

/-- The padded transpose of `d`. -/
theorem DtC_apply (d : Vec Ideal S448x128 .bf16) (q : Fin 128) (w : Fin 512) : DtC d (ix2 q w) = dn d w.val q := by
  unfold DtC dn
  by_cases h : w.val < 448
  · rw [dif_pos h]
    have he : (ix2 q w : S128x512.Idx) = (Rect.unit (s := S128x512) ![0, 0] S128x448.size inb_S128x512_S128x448_0_0).emb (ix2 (n0 := 128) (n1 := 448) q ⟨w.val, h⟩) := by
      funext a; apply Fin.ext
      match a with
      | ⟨0, _⟩ => show q.val = 0 + 1 * q.val; omega
      | ⟨1, _⟩ => show w.val = 0 + 1 * w.val; omega
    rw [he]
    exact (View.canon_cons_emb _ _ _ _).trans (dt12_apply d q ⟨w.val, h⟩)
  · rw [dif_neg h]
    refine (View.canon_cons_of_not_mem _ _ ?_).trans ?_
    · intro hm
      have := ((Rect.mem_set_unit (inb := inb_S128x512_S128x448_0_0)).mp hm 1).2
      exact h (by simpa using this)
    · have he : (ix2 q w : S128x512.Idx) = (Rect.unit (s := S128x512) ![0, 0] S128x512.size inb_S128x512_S128x512_0_0).emb (ix2 (n0 := 128) (n1 := 512) q w) := by
        funext a; apply Fin.ext
        match a with
        | ⟨0, _⟩ => show q.val = 0 + 1 * q.val; omega
        | ⟨1, _⟩ => show w.val = 0 + 1 * w.val; omega
      rw [he]
      exact (View.canon_cons_emb _ _ _ _).trans (dt11_apply q w)

/-! ## The two scratches of the first product -/

theorem emb_T (p : Fin 12) (b : Fin 256) (w : Fin 512) :
    (Rect.unit (s := S12x256x512) ![p.val, 0, 0] S1x256x512.size (inb_T p)).emb (ix3 (n0 := 1) (n1 := 256) (n2 := 512) 0 b w) = ix3 p b w := by
  funext a; apply Fin.ext
  match a with
  | ⟨0, _⟩ => show p.val + 1 * 0 = p.val; omega
  | ⟨1, _⟩ => show 0 + 1 * b.val = b.val; omega
  | ⟨2, _⟩ => show 0 + 1 * w.val = w.val; omega

theorem cast_T (t : FVec Ideal S256x512 .bf16) (b : Fin 256) (w : Fin 512) :
    shapeCast S1x256x512 t shapeCasts_S256x512_S1x256x512 (ix3 (n0 := 1) (n1 := 256) (n2 := 512) 0 b w) = t (ix2 b w) := by
  pointwise

theorem mem_fin12 : ∀ p : Fin 12, p ∈ ([11, 10, 9, 8, 7, 6, 5, 4, 3, 2, 1, 0] : List (Fin 12)) := by decide

/-- What twelve pieces, one for each `p`, leave at `(p, b, w)`. -/
theorem canon_T (f : Fin 12 → FVec Ideal S256x512 .bf16) (p : Fin 12) (b : Fin 256) (w : Fin 512) :
    View.canon (List.map (fun p : Fin 12 => (⟨Rect.unit (s := S12x256x512) ![p.val, 0, 0] S1x256x512.size (inb_T p), shapeCast S1x256x512 (f p) shapeCasts_S256x512_S1x256x512⟩ : View.Piece (Elt Ideal) S12x256x512 .bf16))
      [11, 10, 9, 8, 7, 6, 5, 4, 3, 2, 1, 0]) (ix3 p b w) = f p (ix2 b w) := by
  refine (View.canon_apply_of_pieces (fun y : S12x256x512.Idx => f ⟨(y 0).val, (y 0).isLt⟩ (ix2 ⟨(y 1).val, (y 1).isLt⟩ ⟨(y 2).val, (y 2).isLt⟩)) _ ?_ _ ?_).trans rfl
  · intro pc hpc x
    obtain ⟨p', _, rfl⟩ := List.mem_map.mp hpc
    obtain ⟨a, b', w', rfl⟩ : ∃ (a : Fin 1) (b' : Fin 256) (w' : Fin 512), x = ix3 (n0 := 1) (n1 := 256) (n2 := 512) a b' w' := ⟨_, _, _, (ix3_eta x).symm⟩
    obtain rfl := Subsingleton.elim a 0
    refine (cast_T (f p') b' w').trans ?_
    show _ = (fun y : S12x256x512.Idx => f ⟨(y 0).val, (y 0).isLt⟩ (ix2 ⟨(y 1).val, (y 1).isLt⟩ ⟨(y 2).val, (y 2).isLt⟩)) ((Rect.unit (s := S12x256x512) ![p'.val, 0, 0] S1x256x512.size (inb_T p')).emb (ix3 (n0 := 1) (n1 := 256) (n2 := 512) 0 b' w'))
    rw [emb_T]
    rfl
  · refine ⟨_, List.mem_map.mpr ⟨p, mem_fin12 p, rfl⟩, ?_⟩
    refine (Rect.mem_set_unit (inb := inb_T p)).mpr fun a => ?_
    match a with
    | ⟨0, _⟩ => exact ⟨show p.val ≤ p.val by omega, show p.val < p.val + 1 by omega⟩
    | ⟨1, _⟩ => exact ⟨show 0 ≤ b.val by omega, show b.val < 0 + 256 by omega⟩
    | ⟨2, _⟩ => exact ⟨show 0 ≤ w.val by omega, show w.val < 0 + 512 by omega⟩

/-- The first products' scratch at an index. -/
theorem T_apply (codes : FVec Ideal S256x1536 .fp8e4m3) (d : Vec Ideal S448x128 .bf16) (p : Fin 12) (b : Fin 256) (w : Fin 512) :
    View.canon (TList codes (DtC d)) (ix3 p b w) = Tn (fun k => codes (ix2 b k)) d p w.val := by
  refine (canon_T _ p b w).trans ?_
  rw [tV_apply, Tn]
  exact Finset.sum_congr rfl fun q _ => by rw [DtC_apply]

/-- The rolled scratch at an index. -/
theorem T2_apply (codes : FVec Ideal S256x1536 .fp8e4m3) (d : Vec Ideal S448x128 .bf16) (p : Fin 12) (b : Fin 256) (w : Fin 512) :
    View.canon (T2List codes (DtC d)) (ix3 p b w) = Tn (fun k => codes (ix2 b k)) d p ((w.val + 448) % 512) := by
  refine (canon_T _ p b w).trans ?_
  rw [t2V_apply, tV_apply, Tn]
  exact Finset.sum_congr rfl fun q _ => by
    rw [DtC_apply, show (w.val + 448) % 512 = (w.val + 512 - 64) % 512 by omega]

/-! ## The second product -/

/-- A sum over 192 is a sum over twelve blocks of sixteen. -/
theorem sum_192 (f : Fin 192 → EReal) : ∑ x, f x = ∑ p : Fin 12, ∑ g : Fin 16, f ⟨p.val * 16 + g.val, by omega⟩ := by
  rw [← Fintype.sum_prod_type' (fun (p : Fin 12) (g : Fin 16) => f ⟨p.val * 16 + g.val, by omega⟩)]
  refine (Fintype.sum_equiv (finProdFinEquiv (m := 12) (n := 16)) _ _ fun pg => ?_).symm
  congr 1
  apply Fin.ext
  show pg.1.val * 16 + pg.2.val = pg.2.val + 16 * pg.1.val
  omega

/-- The second product, from a factor that is zero off the diagonal of its blocks of sixteen. -/
theorem uV_diag (te : Vec Ideal S12x16x512 .bf16) (ke : Vec Ideal S160x192 .bf16) (cc : Fin 12 → EReal) (i : Fin 10) (g : Fin 16) (w : Fin 512)
    (hk : ∀ (p : Fin 12) (g' : Fin 16), ke (ix2 ⟨i.val * 16 + g.val, by omega⟩ ⟨p.val * 16 + g'.val, by omega⟩) = if g.val = g'.val then cc p else 0) :
    uV te ke (ix3 i g w) = ∑ p, cc p * te (ix3 p g w) := by
  rw [uV_apply, sum_192]
  refine Finset.sum_congr rfl fun p _ => ?_
  rw [Finset.sum_eq_single g]
  · rw [hk, if_pos rfl]
    congr 2
    exact congrArg₂ (fun a b => ix3 a b w) (Fin.ext (show (p.val * 16 + g.val) / 16 = p.val by omega)) (Fin.ext (show (p.val * 16 + g.val) % 16 = g.val by omega))
  · intro g' _ hne
    rw [hk, if_neg (fun e => hne (Fin.ext e.symm)), zero_mul]
  · intro hg; exact absurd (Finset.mem_univ _) hg

theorem emb_Ke (r : Fin 160) (x : Fin 192) :
    (Rect.unit (s := S320x192) ![0, 0] S160x192.size inb_S320x192_S160x192_0_0).emb (ix2 (n0 := 160) (n1 := 192) r x) = ix2 ⟨r.val, by omega⟩ x := by
  funext a; apply Fin.ext
  match a with
  | ⟨0, _⟩ => show 0 + 1 * r.val = r.val; omega
  | ⟨1, _⟩ => show 0 + 1 * x.val = x.val; omega

theorem emb_Ko (r : Fin 160) (x : Fin 192) :
    (Rect.unit (s := S320x192) ![160, 0] S160x192.size inb_S320x192_S160x192_160_0).emb (ix2 (n0 := 160) (n1 := 192) r x) = ix2 ⟨160 + r.val, by omega⟩ x := by
  funext a; apply Fin.ext
  match a with
  | ⟨0, _⟩ => show 160 + 1 * r.val = 160 + r.val; omega
  | ⟨1, _⟩ => show 0 + 1 * x.val = x.val; omega

/-- The upper half of the factor holds the even rows of `c`. -/
theorem Ke_apply (c : Vec Ideal S20x12 .bf16) (i : Fin 10) (g g' : Fin 16) (p : Fin 12) :
    (View.ld (KronC c) (Rect.unit (s := S320x192) ![0, 0] S160x192.size inb_S320x192_S160x192_0_0) : Vec Ideal S160x192 .bf16)
      (ix2 ⟨i.val * 16 + g.val, by omega⟩ ⟨p.val * 16 + g'.val, by omega⟩) = if g.val = g'.val then Ideal.ofBits .f32 0x3F000000#32 * cn c (2 * i.val) p else 0 := by
  show KronC c ((Rect.unit (s := S320x192) ![0, 0] S160x192.size inb_S320x192_S160x192_0_0).emb _) = _
  rw [emb_Ke, KronC, kronV_apply c _ _ ⟨2 * i.val, by omega⟩ p (by show 2 * i.val = aOf ((i.val * 16 + g.val) / 16); unfold aOf; split_ifs <;> omega)
    (by show p.val = (p.val * 16 + g'.val) / 16; omega), cn, dif_pos (by omega : 2 * i.val < 20)]
  exact if_congr (by show (i.val * 16 + g.val) % 16 = (p.val * 16 + g'.val) % 16 ↔ _; omega) rfl rfl

/-- The lower half of the factor holds the odd rows of `c`. -/
theorem Ko_apply (c : Vec Ideal S20x12 .bf16) (i : Fin 10) (g g' : Fin 16) (p : Fin 12) :
    (View.ld (KronC c) (Rect.unit (s := S320x192) ![160, 0] S160x192.size inb_S320x192_S160x192_160_0) : Vec Ideal S160x192 .bf16)
      (ix2 ⟨i.val * 16 + g.val, by omega⟩ ⟨p.val * 16 + g'.val, by omega⟩) = if g.val = g'.val then Ideal.ofBits .f32 0x3F000000#32 * cn c (2 * i.val + 1) p else 0 := by
  show KronC c ((Rect.unit (s := S320x192) ![160, 0] S160x192.size inb_S320x192_S160x192_160_0).emb _) = _
  rw [emb_Ko, KronC, kronV_apply c _ _ ⟨2 * i.val + 1, by omega⟩ p (by show 2 * i.val + 1 = aOf ((160 + (i.val * 16 + g.val)) / 16); unfold aOf; split_ifs <;> omega)
    (by show p.val = (p.val * 16 + g'.val) / 16; omega), cn, dif_pos (by omega : 2 * i.val + 1 < 20)]
  exact if_congr (by show (160 + (i.val * 16 + g.val)) % 16 = (p.val * 16 + g'.val) % 16 ↔ _; omega) rfl rfl

theorem emb_Tr (g : Fin 16) (p : Fin 12) (x : Fin 16) (w : Fin 512) :
    (Rect.unit (s := S12x256x512) ![0, 16 * g.val, 0] S12x16x512.size (inb_Tr g)).emb (ix3 (n0 := 12) (n1 := 16) (n2 := 512) p x w) = ix3 p ⟨16 * g.val + x.val, by omega⟩ w := by
  funext a; apply Fin.ext
  match a with
  | ⟨0, _⟩ => show 0 + 1 * p.val = p.val; omega
  | ⟨1, _⟩ => show 16 * g.val + 1 * x.val = 16 * g.val + x.val; omega
  | ⟨2, _⟩ => show 0 + 1 * w.val = w.val; omega

/-- Sixteen rows of the second product, the even blocks. -/
def ueV (codes : FVec Ideal S256x1536 .fp8e4m3) (c : Vec Ideal S20x12 .bf16) (d : Vec Ideal S448x128 .bf16) (g : Fin 16) : FVec Ideal S10x16x512 .f32 :=
  uV (View.ld (View.canon (TList codes (DtC d))) (Rect.unit (s := S12x256x512) ![0, 16 * g.val, 0] S12x16x512.size (inb_Tr g)))
    (View.ld (KronC c) (Rect.unit (s := S320x192) ![0, 0] S160x192.size inb_S320x192_S160x192_0_0))

/-- Sixteen rows of the second product, the odd blocks, 64 columns to the right. -/
def uoV (codes : FVec Ideal S256x1536 .fp8e4m3) (c : Vec Ideal S20x12 .bf16) (d : Vec Ideal S448x128 .bf16) (g : Fin 16) : FVec Ideal S10x16x512 .f32 :=
  uV (View.ld (View.canon (T2List codes (DtC d))) (Rect.unit (s := S12x256x512) ![0, 16 * g.val, 0] S12x16x512.size (inb_Tr g)))
    (View.ld (KronC c) (Rect.unit (s := S320x192) ![160, 0] S160x192.size inb_S320x192_S160x192_160_0))

theorem ueV_apply (codes : FVec Ideal S256x1536 .fp8e4m3) (c : Vec Ideal S20x12 .bf16) (d : Vec Ideal S448x128 .bf16) (g : Fin 16) (i : Fin 10) (x : Fin 16) (w : Fin 512) :
    ueV codes c d g (ix3 i x w) = Un c (fun k => codes (ix2 ⟨16 * g.val + x.val, by omega⟩ k)) d (2 * i.val) w.val := by
  refine (uV_diag _ _ (fun p => Ideal.ofBits .f32 0x3F000000#32 * cn c (2 * i.val) p) i x w fun p g' => Ke_apply c i x g' p).trans ?_
  refine Finset.sum_congr rfl fun p _ => congrArg (fun z : EReal => Ideal.ofBits .f32 0x3F000000#32 * cn c (2 * i.val) p * z) ?_
  show View.canon (TList codes (DtC d)) ((Rect.unit (s := S12x256x512) ![0, 16 * g.val, 0] S12x16x512.size (inb_Tr g)).emb _) = _
  rw [emb_Tr, T_apply]

theorem uoV_apply (codes : FVec Ideal S256x1536 .fp8e4m3) (c : Vec Ideal S20x12 .bf16) (d : Vec Ideal S448x128 .bf16) (g : Fin 16) (i : Fin 10) (x : Fin 16) (w : Fin 512) :
    uoV codes c d g (ix3 i x w) = Un c (fun k => codes (ix2 ⟨16 * g.val + x.val, by omega⟩ k)) d (2 * i.val + 1) ((w.val + 448) % 512) := by
  refine (uV_diag _ _ (fun p => Ideal.ofBits .f32 0x3F000000#32 * cn c (2 * i.val + 1) p) i x w fun p g' => Ko_apply c i x g' p).trans ?_
  refine Finset.sum_congr rfl fun p _ => congrArg (fun z : EReal => Ideal.ofBits .f32 0x3F000000#32 * cn c (2 * i.val + 1) p * z) ?_
  show View.canon (T2List codes (DtC d)) ((Rect.unit (s := S12x256x512) ![0, 16 * g.val, 0] S12x16x512.size (inb_Tr g)).emb _) = _
  rw [emb_Tr, T2_apply]

end Cert.Body

end
-- ==== Proof.Body.IdCodes.lean ====
module

public import proofs.«01_k».proof.Proof.Body.Lists
public import proofs.«01_k».proof.Proof.Body.Quant
public import Idealize.ShloMosaic.Lib.Pointwise

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The quantiser at an index -/

/-- What is rounded up to a power of two for a row of entries `f`: the largest absolute value times `1 / 448`. -/
def qOf (f : Fin 1536 → EReal) : EReal :=
  Finset.fold max (Ideal.ofBits .bf16 0xFF80#16) (fun k => max (f k) (-(f k))) Finset.univ * Ideal.ofBits .f32 0x3B124925#32

theorem q_apply (X : Vec Ideal S256x1536 .bf16) (r : Fin 256) :
    k0_pay14 X (ix2 r 0) = qOf (fun k => X (ix2 r k)) := by
  pointwise [k0_pay14, k0_pay13]
  rfl

/-- One step of the search, for all rows at once. -/
def stepV (v : FVec Ideal S256x1 .f32) (b : BitVec 32) (f : IVec S256x1 32) : IVec S256x1 32 :=
  select (cmpf .olt v (bitcastToFloat .f32 (shli (addi f (broadcast S256x1 b)) (broadcast S256x1 23#32)))) f (addi f (broadcast S256x1 b))

theorem stepV_apply (v : FVec Ideal S256x1 .f32) (b : BitVec 32) (f : IVec S256x1 32) (j : S256x1.Idx) :
    stepV v b f j = fieldStep (v j) b (f j) := rfl

theorem pay15_eq (X : Vec Ideal S256x1536 .bf16) :
    k0_pay15 X = stepV (k0_pay14 X) 32#32 (stepV (k0_pay14 X) 64#32 (stepV (k0_pay14 X) 128#32 (broadcast S256x1 0#32))) := by
  rw [k0_pay15]
  generalize k0_pay14 X = v
  rfl

theorem pay17_eq (v : FVec Ideal S256x1 .f32) (f : IVec S256x1 32) :
    k0_pay17 v f (addi f (broadcast S256x1 16#32)) = stepV v 1#32 (stepV v 2#32 (stepV v 4#32 (stepV v 8#32 (stepV v 16#32 f)))) := by
  rw [k0_pay17]
  rfl

theorem field_apply (X : Vec Ideal S256x1536 .bf16) (j : S256x1.Idx) :
    k0_pay17 (k0_pay14 X) (k0_pay15 X) (k0_pay16 X) j = field (k0_pay14 X j) := by
  rw [k0_pay16]
  rw [pay17_eq, pay15_eq, stepV_apply, stepV_apply, stepV_apply, stepV_apply, stepV_apply, stepV_apply, stepV_apply, stepV_apply, field]
  rfl

theorem kexp_apply (X : Vec Ideal S256x1536 .bf16) (j : S256x1.Idx) :
    k0_pay19 (k0_pay17 (k0_pay14 X) (k0_pay15 X) (k0_pay16 X)) (k0_pay18 (k0_pay14 X) (k0_pay15 X) (k0_pay16 X)) j = kexp (k0_pay14 X j) := by
  rw [kexp, ← field_apply]
  rfl

/-- The scale of row `r`. -/
theorem scaleV_apply (X : Vec Ideal S256x1536 .bf16) (r : Fin 256) :
    scaleV X (ix2 r 0) = kscale (qOf (fun k => X (ix2 r k))) := by
  rw [kscale, ← q_apply, ← kexp_apply]
  rfl

theorem pay22_apply (v83 : IVec S256x1 32) (v85 : IVec S256x1 1) (l : Fin 256) :
    k0_pay22 (F := Ideal) v83 v85 (ix2 0 l) = k0_pay20 v83 v85 (ix2 l 0) := by
  pointwise [k0_pay22]

/-- The first row of scales. -/
theorem scaleRow0_apply (X : Vec Ideal S256x1536 .bf16) (l : Fin 128) (r : Fin 256) (hr : r.val = l.val) :
    scaleRow0 X (ix2 0 l) = kscale (qOf (fun k => X (ix2 r k))) := by
  rw [← scaleV_apply, scaleV, ← pay22_apply, scaleRow0]
  generalize k0_pay17 (F := Ideal) _ _ _ = a
  generalize k0_pay18 (F := Ideal) _ _ _ = b
  pointwise [k0_pay23]
  congr 2
  exact Fin.ext hr.symm

/-- The second row of scales. -/
theorem scaleRow1_apply (X : Vec Ideal S256x1536 .bf16) (l : Fin 128) (r : Fin 256) (hr : r.val = 128 + l.val) :
    scaleRow1 X (ix2 0 l) = kscale (qOf (fun k => X (ix2 r k))) := by
  rw [← scaleV_apply, scaleV, ← pay22_apply, scaleRow1]
  generalize k0_pay17 (F := Ideal) _ _ _ = a
  generalize k0_pay18 (F := Ideal) _ _ _ = b
  pointwise [k0_pay25, k0_pay24]
  congr 2
  exact Fin.ext hr.symm

/-- The code of an entry. -/
theorem codesV_apply (X : Vec Ideal S256x1536 .bf16) (r : Fin 256) (k : Fin 1536) :
    codesV X (ix2 r k) = min (Ideal.ofBits .f32 0x43E00000#32) (max (Ideal.ofBits .f32 0xC3E00000#32)
      (X (ix2 r k) * kinv (qOf (fun k => X (ix2 r k))))) := by
  rw [kinv, ← q_apply, ← kexp_apply, codesV]
  generalize k0_pay17 (F := Ideal) _ _ _ = a
  generalize k0_pay18 (F := Ideal) _ _ _ = b
  pointwise [k0_pay21, k0_pay13]
  try rfl

end Cert.Body

end
-- ==== Proof.Body.IdU.lean ====
module

public import proofs.«01_k».proof.Proof.Body.IdY
public import proofs.«01_k».proof.Proof.Body.IdCodes
public import proofs.«01_k».proof.Proof.Body.Quant
public import Idealize.ShloMosaic.Lib.Pointwise

@[expose] public section

set_option maxRecDepth 16384

noncomputable section

namespace Cert.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The adapter's scratch at an index -/

theorem emb_Ua (g : Fin 16) (b : Fin 10) (x : Fin 16) (w : Fin 384) :
    (Rect.unit (s := S256x8960) ![16 * g.val, 896 * b.val] S16x384.size (inb_Ua g b)).emb (ix2 (n0 := 16) (n1 := 384) x w)
      = ix2 ⟨16 * g.val + x.val, by omega⟩ ⟨896 * b.val + w.val, by omega⟩ := by
  funext a; apply Fin.ext
  match a with
  | ⟨0, _⟩ => show 16 * g.val + 1 * x.val = 16 * g.val + x.val; omega
  | ⟨1, _⟩ => show 896 * b.val + 1 * w.val = 896 * b.val + w.val; omega

theorem emb_Ub (g : Fin 16) (b : Fin 10) (x : Fin 16) (w : Fin 128) :
    (Rect.unit (s := S256x8960) ![16 * g.val, 896 * b.val + 384] S16x128.size (inb_Ub g b)).emb (ix2 (n0 := 16) (n1 := 128) x w)
      = ix2 ⟨16 * g.val + x.val, by omega⟩ ⟨896 * b.val + 384 + w.val, by omega⟩ := by
  funext a; apply Fin.ext
  match a with
  | ⟨0, _⟩ => show 16 * g.val + 1 * x.val = 16 * g.val + x.val; omega
  | ⟨1, _⟩ => show 896 * b.val + 384 + 1 * w.val = 896 * b.val + 384 + w.val; omega

theorem emb_Uc (g : Fin 16) (b : Fin 10) (x : Fin 16) (w : Fin 384) :
    (Rect.unit (s := S256x8960) ![16 * g.val, 896 * b.val + 512] S16x384.size (inb_Uc g b)).emb (ix2 (n0 := 16) (n1 := 384) x w)
      = ix2 ⟨16 * g.val + x.val, by omega⟩ ⟨896 * b.val + 512 + w.val, by omega⟩ := by
  funext a; apply Fin.ext
  match a with
  | ⟨0, _⟩ => show 16 * g.val + 1 * x.val = 16 * g.val + x.val; omega
  | ⟨1, _⟩ => show 896 * b.val + 512 + 1 * w.val = 896 * b.val + 512 + w.val; omega

theorem pieceA (ue : FVec Ideal S10x16x512 .f32) (b : Fin 10) (x : Fin 16) (w : Fin 384) :
    shapeCast S16x384 (shapeCast S16x384 (extractStridedSlice S1x16x384 ![b.val, 0, 0] ue (slices_Ua b)) shapeCasts_S1x16x384_S16x384) shapeCasts_S16x384_S16x384 (ix2 x w)
      = ue (ix3 b x ⟨w.val, by omega⟩) := by
  pointwise

theorem pieceB (ue uo : FVec Ideal S10x16x512 .f32) (b : Fin 10) (x : Fin 16) (w : Fin 128) :
    shapeCast S16x128 (addf (shapeCast S16x128 (extractStridedSlice S1x16x128 ![b.val, 0, 384] ue (slices_Ub b)) shapeCasts_S1x16x128_S16x128)
        (shapeCast S16x128 (extractStridedSlice S1x16x128 ![b.val, 0, 0] uo (slices_Ub' b)) shapeCasts_S1x16x128_S16x128)) shapeCasts_S16x128_S16x128 (ix2 x w)
      = ue (ix3 b x ⟨384 + w.val, by omega⟩) + uo (ix3 b x ⟨w.val, by omega⟩) := by
  pointwise

theorem pieceC (uo : FVec Ideal S10x16x512 .f32) (b : Fin 10) (x : Fin 16) (w : Fin 384) :
    shapeCast S16x384 (shapeCast S16x384 (extractStridedSlice S1x16x384 ![b.val, 0, 128] uo (slices_Uc b)) shapeCasts_S1x16x384_S16x384) shapeCasts_S16x384_S16x384 (ix2 x w)
      = uo (ix3 b x ⟨128 + w.val, by omega⟩) := by
  pointwise

/-- The adapter's value at row `r`, column `n`: block `n / 448`, column `n % 448` of it. -/
def GU (codes : FVec Ideal S256x1536 .fp8e4m3) (c : Vec Ideal S20x12 .bf16) (d : Vec Ideal S448x128 .bf16) (y : S256x8960.Idx) : EReal :=
  Un c (fun k => codes (ix2 ⟨(y 0).val, (y 0).isLt⟩ k)) d ((y 1).val / 448) ((y 1).val % 448)

/-- Each of the three pieces of a pair of blocks holds the adapter's values. -/
theorem UTri_eq (codes : FVec Ideal S256x1536 .fp8e4m3) (c : Vec Ideal S20x12 .bf16) (d : Vec Ideal S448x128 .bf16) (g : Fin 16) (b : Fin 10) :
    ∀ p ∈ UTri (ueV codes c d g) (uoV codes c d g) g b, ∀ x : p.1.shape.Idx, p.2 x = GU codes c d (p.1.emb x) := by
  intro p hp
  simp only [UTri, List.mem_cons, List.not_mem_nil, or_false] at hp
  obtain rfl | rfl | rfl := hp
  · intro y
    obtain ⟨x, w, rfl⟩ : ∃ (x : Fin 16) (w : Fin 384), y = ix2 (n0 := 16) (n1 := 384) x w := ⟨_, _, (ix2_eta y).symm⟩
    refine (pieceC (uoV codes c d g) b x w).trans ?_
    rw [uoV_apply]
    refine Eq.trans ?_ (congrArg (GU codes c d) (emb_Uc g b x w).symm)
    show Un c _ d (2 * b.val + 1) ((128 + w.val + 448) % 512) = Un c _ d ((896 * b.val + 512 + w.val) / 448) ((896 * b.val + 512 + w.val) % 448)
    rw [show (128 + w.val + 448) % 512 = (896 * b.val + 512 + w.val) % 448 by omega, show 2 * b.val + 1 = (896 * b.val + 512 + w.val) / 448 by omega]
    rfl
  · intro y
    obtain ⟨x, w, rfl⟩ : ∃ (x : Fin 16) (w : Fin 128), y = ix2 (n0 := 16) (n1 := 128) x w := ⟨_, _, (ix2_eta y).symm⟩
    refine (pieceB _ _ b x w).trans ?_
    rw [uoV_apply, ueV_apply]
    refine Eq.trans ?_ (congrArg (GU codes c d) (emb_Ub g b x w).symm)
    show Un c _ d (2 * b.val) (384 + w.val) + Un c _ d (2 * b.val + 1) ((w.val + 448) % 512) = Un c _ d ((896 * b.val + 384 + w.val) / 448) ((896 * b.val + 384 + w.val) % 448)
    by_cases hw : w.val < 64
    · rw [Un_zero c _ d (2 * b.val + 1) ((w.val + 448) % 512) (by omega), add_zero,
        show 384 + w.val = (896 * b.val + 384 + w.val) % 448 by omega, show 2 * b.val = (896 * b.val + 384 + w.val) / 448 by omega]
      rfl
    · rw [Un_zero c _ d (2 * b.val) (384 + w.val) (by omega), zero_add,
        show (w.val + 448) % 512 = (896 * b.val + 384 + w.val) % 448 by omega, show 2 * b.val + 1 = (896 * b.val + 384 + w.val) / 448 by omega]
      rfl
  · intro y
    obtain ⟨x, w, rfl⟩ : ∃ (x : Fin 16) (w : Fin 384), y = ix2 (n0 := 16) (n1 := 384) x w := ⟨_, _, (ix2_eta y).symm⟩
    refine (pieceA (ueV codes c d g) b x w).trans ?_
    rw [ueV_apply]
    refine Eq.trans ?_ (congrArg (GU codes c d) (emb_Ua g b x w).symm)
    show Un c _ d (2 * b.val) w.val = Un c _ d ((896 * b.val + w.val) / 448) ((896 * b.val + w.val) % 448)
    rw [show (896 * b.val + w.val) % 448 = w.val by omega, show (896 * b.val + w.val) / 448 = 2 * b.val by omega]
    rfl

theorem mem_fin16 : ∀ g : Fin 16, g ∈ ([15, 14, 13, 12, 11, 10, 9, 8, 7, 6, 5, 4, 3, 2, 1, 0] : List (Fin 16)) := by decide
theorem mem_fin10 : ∀ b : Fin 10, b ∈ ([9, 8, 7, 6, 5, 4, 3, 2, 1, 0] : List (Fin 10)) := by decide
theorem mem_fin35 : ∀ j : Fin 35, j ∈ ([34, 33, 32, 31, 30, 29, 28, 27, 26, 25, 24, 23, 22, 21, 20, 19, 18, 17, 16, 15, 14, 13, 12, 11, 10, 9, 8, 7, 6, 5, 4, 3, 2, 1, 0] : List (Fin 35)) := by decide

/-- The three pieces cover their pair of blocks. -/
theorem UTri_cover (ue uo : FVec Ideal S10x16x512 .f32) (g : Fin 16) (b : Fin 10) (r : Fin 256) (n : Fin 8960)
    (hg : g.val = r.val / 16) (hb : b.val = n.val / 896) : ∃ p ∈ UTri ue uo g b, (ix2 r n : S256x8960.Idx) ∈ p.1.set := by
  rcases Nat.lt_or_ge (n.val % 896) 384 with h | h
  · refine ⟨_, List.mem_cons_of_mem _ (List.mem_cons_of_mem _ List.mem_cons_self), (Rect.mem_set_unit (inb := inb_Ua g b)).mpr fun a => ?_⟩
    match a with
    | ⟨0, _⟩ => exact ⟨show 16 * g.val ≤ r.val by omega, show r.val < 16 * g.val + 16 by omega⟩
    | ⟨1, _⟩ => exact ⟨show 896 * b.val ≤ n.val by omega, show n.val < 896 * b.val + 384 by omega⟩
  rcases Nat.lt_or_ge (n.val % 896) 512 with h' | h'
  · refine ⟨_, List.mem_cons_of_mem _ List.mem_cons_self, (Rect.mem_set_unit (inb := inb_Ub g b)).mpr fun a => ?_⟩
    match a with
    | ⟨0, _⟩ => exact ⟨show 16 * g.val ≤ r.val by omega, show r.val < 16 * g.val + 16 by omega⟩
    | ⟨1, _⟩ => exact ⟨show 896 * b.val + 384 ≤ n.val by omega, show n.val < 896 * b.val + 384 + 128 by omega⟩
  · refine ⟨_, List.mem_cons_self, (Rect.mem_set_unit (inb := inb_Uc g b)).mpr fun a => ?_⟩
    match a with
    | ⟨0, _⟩ => exact ⟨show 16 * g.val ≤ r.val by omega, show r.val < 16 * g.val + 16 by omega⟩
    | ⟨1, _⟩ => exact ⟨show 896 * b.val + 512 ≤ n.val by omega, show n.val < 896 * b.val + 512 + 384 by omega⟩

/-- The adapter's scratch at an index. -/
theorem U_apply (X : Vec Ideal S256x1536 .bf16) (c : Vec Ideal S20x12 .bf16) (d : Vec Ideal S448x128 .bf16) (r : Fin 256) (n : Fin 8960) :
    View.canon (UC X (KronC c) (DtC d)) (ix2 r n) = Un c (fun k => codesV X (ix2 r k)) d (n.val / 448) (n.val % 448) := by
  refine (View.canon_apply_of_pieces (GU (codesV X) c d) _ ?_ _ ?_).trans rfl
  · intro p hp
    obtain ⟨g, _, hp⟩ := List.mem_flatMap.mp hp
    obtain ⟨b, _, hp⟩ := List.mem_flatMap.mp hp
    exact UTri_eq (codesV X) c d g b p hp
  · obtain ⟨p, hp, hm⟩ := UTri_cover (ueV (codesV X) c d ⟨r.val / 16, by omega⟩) (uoV (codesV X) c d ⟨r.val / 16, by omega⟩) ⟨r.val / 16, by omega⟩ ⟨n.val / 896, by omega⟩ r n rfl rfl
    exact ⟨p, List.mem_flatMap.mpr ⟨_, mem_fin16 _, List.mem_flatMap.mpr ⟨_, mem_fin10 _, hp⟩⟩, hm⟩

/-! ## The block of `y` at an index -/

theorem emb_Y (j : Fin 35) (r l : Fin 256) :
    (Rect.unit (s := S256x8960) ![0, 256 * j.val] S256x256.size (inb_Y j)).emb (ix2 (n0 := 256) (n1 := 256) r l) = ix2 r ⟨256 * j.val + l.val, by omega⟩ := by
  funext a; apply Fin.ext
  match a with
  | ⟨0, _⟩ => show 0 + 1 * r.val = r.val; omega
  | ⟨1, _⟩ => show 256 * j.val + 1 * l.val = 256 * j.val + l.val; omega

theorem emb_W (j : Fin 35) (l : Fin 256) (k : Fin 1536) :
    (Rect.unit (s := S8960x1536) ![256 * j.val, 0] S256x1536.size (inb_W j)).emb (ix2 (n0 := 256) (n1 := 1536) l k) = ix2 ⟨256 * j.val + l.val, by omega⟩ k := by
  funext a; apply Fin.ext
  match a with
  | ⟨0, _⟩ => show 256 * j.val + 1 * l.val = 256 * j.val + l.val; omega
  | ⟨1, _⟩ => show 0 + 1 * k.val = k.val; omega

theorem emb_WS (j : Fin 35) (l : Fin 256) :
    (Rect.unit (s := S1x8960) ![0, 256 * j.val] S1x256.size (inb_WS j)).emb (ix2 (n0 := 1) (n1 := 256) 0 l) = ix2 0 ⟨256 * j.val + l.val, by omega⟩ := by
  funext a; apply Fin.ext
  match a with
  | ⟨0, _⟩ => rfl
  | ⟨1, _⟩ => show 256 * j.val + 1 * l.val = 256 * j.val + l.val; omega

/-- The value of `y` at row `r`, column `n` of a block. -/
def yOf (X : Vec Ideal S256x1536 .bf16) (W : Vec Ideal S8960x1536 .fp8e4m3) (ws : Vec Ideal S1x8960 .f32) (c : Vec Ideal S20x12 .bf16) (d : Vec Ideal S448x128 .bf16)
    (r : Fin 256) (n : Fin 8960) : EReal :=
  ((∑ k, codesV X (ix2 r k) * W (ix2 n k)) * ws (ix2 0 n) + Un c (fun k => codesV X (ix2 r k)) d (n.val / 448) (n.val % 448)) * scaleV X (ix2 r 0)

/-- The block of `y` a point leaves. -/
theorem Y_apply (X : Vec Ideal S256x1536 .bf16) (W : Vec Ideal S8960x1536 .fp8e4m3) (ws : Vec Ideal S1x8960 .f32) (c : Vec Ideal S20x12 .bf16) (d : Vec Ideal S448x128 .bf16)
    (r : Fin 256) (n : Fin 8960) : View.canon (YC X W ws (KronC c) (DtC d)) (ix2 r n) = yOf X W ws c d r n := by
  refine (View.canon_apply_of_pieces (fun y : S256x8960.Idx => yOf X W ws c d ⟨(y 0).val, (y 0).isLt⟩ ⟨(y 1).val, (y 1).isLt⟩) _ ?_ _ ?_).trans rfl
  · intro p hp y
    obtain ⟨j, _, rfl⟩ := List.mem_map.mp hp
    obtain ⟨r', l, rfl⟩ : ∃ (r' : Fin 256) (l : Fin 256), y = ix2 (n0 := 256) (n1 := 256) r' l := ⟨_, _, (ix2_eta y).symm⟩
    refine (yV_apply _ _ _ _ _ r' l).trans ?_
    refine Eq.trans ?_ (congrArg (fun y : S256x8960.Idx => yOf X W ws c d ⟨(y 0).val, (y 0).isLt⟩ ⟨(y 1).val, (y 1).isLt⟩) (emb_Y j r' l).symm)
    show _ = yOf X W ws c d r' ⟨256 * j.val + l.val, by omega⟩
    unfold yOf
    have hw : ∀ k, View.ld W (Rect.unit (s := S8960x1536) ![256 * j.val, 0] S256x1536.size (inb_W j)) (ix2 (n0 := 256) (n1 := 1536) l k) = W (ix2 ⟨256 * j.val + l.val, by omega⟩ k) :=
      fun k => congrArg W (emb_W j l k)
    have hs : View.ld ws (Rect.unit (s := S1x8960) ![0, 256 * j.val] S1x256.size (inb_WS j)) (ix2 (n0 := 1) (n1 := 256) 0 l) = ws (ix2 0 ⟨256 * j.val + l.val, by omega⟩) :=
      congrArg ws (emb_WS j l)
    have hu : View.ld (View.canon (UC X (KronC c) (DtC d))) (Rect.unit (s := S256x8960) ![0, 256 * j.val] S256x256.size (inb_Y j)) (ix2 (n0 := 256) (n1 := 256) r' l)
        = Un c (fun k => codesV X (ix2 r' k)) d ((256 * j.val + l.val) / 448) ((256 * j.val + l.val) % 448) :=
      (congrArg (View.canon (UC X (KronC c) (DtC d))) (emb_Y j r' l)).trans (U_apply X c d r' _)
    exact congrArg₂ (fun a b : EReal => a * b) (congrArg₂ (fun a b : EReal => a + b) (congrArg₂ (fun a b : EReal => a * b)
      (Finset.sum_congr rfl fun k _ => congrArg (fun z : EReal => codesV X (ix2 r' k) * z) (hw k)) hs) hu) rfl
  · exact cover_YList _ _ _ _ _ _

end Cert.Body

end
-- ==== Proof.Body.IdRef.lean ====
module

public import proofs.«01_k».proof.Proof.Gen.ReferenceIdeal.Value
public import proofs.«01_k».proof.Proof.Body.IdCodes
public import proofs.«01_k».proof.Proof.Body.Quant
public import Idealize.ShloMosaic.Lib.Pointwise

@[expose] public section

set_option maxRecDepth 16384

noncomputable section

namespace Cert.Body.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The reference at an index -/

/-- The largest magnitude of a row, times `1 / 448`. -/
def qV (X : Vec Ideal S32x640x1536 .bf16) (c : EReal) : FVec Ideal S32x640 .f32 :=
  mulf (multiReduction .maximumf [2] S32x640 (absf (k0_pay3 X)) 0xFF800000#32 reduces_S32x640x1536_S32x640 (.inl rfl) rfl) (broadcast S32x640 c)

theorem neg_inf : Ideal.ofBits .f32 0xFF800000#32 = Ideal.ofBits .bf16 0xFF80#16 := by
  rw [Ideal.ofBits, Ideal.ieee, Ideal.ofBits, Ideal.ieee]
  simp

theorem ofBits_neg_inf : FloatOps.ofBits (F := Ideal) .f32 0xFF800000#32 = Ideal.ofBits .bf16 0xFF80#16 := neg_inf

theorem lift_eq (b : Fin 32) (s : Fin 640) (k : Fin 1536) : reduces_S32x640x1536_S32x640.lift (ix2 b s) k = ix3 b s k := by
  funext a; apply Fin.ext
  match a with
  | ⟨0, _⟩ => rfl
  | ⟨1, _⟩ => rfl
  | ⟨2, _⟩ => rfl

theorem mulf_broadcast (v : FVec Ideal S32x640 .f32) (c : EReal) (j : S32x640.Idx) : mulf v (broadcast S32x640 c) j = v j * c := rfl

theorem max_apply (v : FVec Ideal S32x640x1536 .f32) (b : Fin 32) (s : Fin 640) :
    multiReduction .maximumf [2] S32x640 v 0xFF800000#32 reduces_S32x640x1536_S32x640 (.inl rfl) rfl (ix2 b s)
      = (Finset.univ : Finset (Fin (S32x640x1536.size 2))).fold max (FloatOps.ofBits (F := Ideal) .f32 0xFF800000#32)
        (fun k => v (reduces_S32x640x1536_S32x640.lift (ix2 b s) k)) :=
  Ideal.multiReduction_maximumf_single v 0xFF800000#32 reduces_S32x640x1536_S32x640 (.inl rfl) rfl (ix2 b s)

theorem fold_axis (f : Fin (S32x640x1536.size 2) → EReal) (c : EReal) :
    (Finset.univ : Finset (Fin (S32x640x1536.size 2))).fold max c f = Finset.fold max c (fun k : Fin 1536 => f k) Finset.univ := rfl

theorem abs_apply (X : Vec Ideal S32x640x1536 .bf16) (j : S32x640x1536.Idx) : absf (k0_pay3 X) j = max (X j) (-(X j)) := by
  rw [k0_pay3]
  rfl

theorem qV_apply (X : Vec Ideal S32x640x1536 .bf16) (c : EReal) (b : Fin 32) (s : Fin 640) :
    qV X c (ix2 b s) = Finset.fold max (Ideal.ofBits .bf16 0xFF80#16) (fun k => max (X (ix3 b s k)) (-(X (ix3 b s k)))) Finset.univ * c := by
  rw [qV, mulf_broadcast, max_apply, fold_axis, ofBits_neg_inf]
  simp only [lift_eq, abs_apply]

/-- The exponent from `q`, at an index. -/
theorem rexp_aux (v : FVec Ideal S32x640 .f32) (t z o l2 : EReal) (j : S32x640.Idx) :
    (select (cmpf .olt v (broadcast S32x640 t)) (broadcast S32x640 z) (addf (floor (divf (log v) (broadcast S32x640 l2))) (broadcast S32x640 o)) : FVec Ideal S32x640 .f32) j
      = Scalar.select (Ideal.cmp .olt (v j) t) z (Ideal.liftRound Int.floor (Ideal.div (Ideal.log (v j)) l2) + o) := rfl

theorem pay4_eq (X : Vec Ideal S32x640x1536 .bf16) :
    k0_pay4 X = select (cmpf .olt (qV X (Scalar.ofBits (F := Ideal) .f32 0x3B124925#32)) (broadcast S32x640 (Scalar.ofBits (F := Ideal) .f32 0x00800000#32)))
      (broadcast S32x640 (Scalar.ofBits (F := Ideal) .f32 0x00000000#32))
      (addf (floor (divf (log (qV X (Scalar.ofBits (F := Ideal) .f32 0x3B124925#32))) (broadcast S32x640 (Scalar.log (Scalar.ofBits (F := Ideal) .f32 0x40000000#32)))))
        (broadcast S32x640 (Scalar.ofBits (F := Ideal) .f32 0x3F800000#32))) := by
  rw [k0_pay4, qV]

/-- The reference's exponent for row `(b, s)`. -/
theorem rexp_apply (X : Vec Ideal S32x640x1536 .bf16) (b : Fin 32) (s : Fin 640) :
    k0_pay4 X (ix2 b s) = rexp (qOf (fun k => X (ix3 b s k))) := by
  rw [pay4_eq]
  refine (rexp_aux _ _ _ _ _ _).trans ?_
  rw [qV_apply, rexp, qOf]
  generalize Finset.fold max (Ideal.ofBits .bf16 0xFF80#16) (fun k => max (X (ix3 b s k)) (-(X (ix3 b s k)))) Finset.univ = y
  rfl

theorem exp2_aux (v : FVec Ideal S32x640 .f32) (j : S32x640.Idx) : exp2 v j = Ideal.exp2 (v j) := rfl

/-- The reference's scale of row `(b, s)`. -/
theorem scale_apply (X : Vec Ideal S32x640x1536 .bf16) (b : Fin 32) (s : Fin 640) :
    k0_pay5 X (ix2 b s) = Ideal.exp2 (rexp (qOf (fun k => X (ix3 b s k)))) := by
  rw [← rexp_apply, k0_pay5, exp2_aux]

theorem codes_aux (X : Vec Ideal S32x640x1536 .bf16) (e : FVec Ideal S32x640 .f32) (z lo hi : EReal) (b : Fin 32) (s : Fin 640) (k : Fin 1536) :
    (truncf .fp8e4m3 (minimumf (broadcast S32x640x1536 hi) (maximumf (broadcast S32x640x1536 lo) (mulf (extf .f32 X bitsLt_bf16_f32)
      (broadcastTo S32x640x1536 (shapeCast S32x640x1 (exp2 (subf (broadcast S32x640 z) e)) shapeCasts_S32x640_S32x640x1) broadcasts_S32x640x1_S32x640x1536))))
      bitsLt_fp8e4m3_f32 : FVec Ideal S32x640x1536 .fp8e4m3) (ix3 b s k)
    = min hi (max lo (X (ix3 b s k) * Ideal.exp2 (z - e (ix2 b s)))) := by
  generalize hv : exp2 (subf (broadcast S32x640 z) e) = v
  have hj : v (ix2 b s) = Ideal.exp2 (z - e (ix2 b s)) := by rw [← hv]; rfl
  rw [← hj]
  pointwise

/-- The reference's code of an entry. -/
theorem codes_apply (X : Vec Ideal S32x640x1536 .bf16) (b : Fin 32) (s : Fin 640) (k : Fin 1536) :
    k0_pay6 X (ix3 b s k) = min (Ideal.ofBits .f32 0x43E00000#32) (max (Ideal.ofBits .f32 0xC3E00000#32)
      (X (ix3 b s k) * Ideal.exp2 (0 - rexp (qOf (fun k => X (ix3 b s k)))))) := by
  rw [← rexp_apply, ← Ideal.ofBits_zero_f32]
  exact codes_aux X (k0_pay4 X) (Scalar.ofBits (F := Ideal) .f32 0x00000000#32) (Scalar.ofBits (F := Ideal) .f32 0xC3E00000#32) (Scalar.ofBits (F := Ideal) .f32 0x43E00000#32) b s k

/-- The codes as the result's flat array of rows. -/
theorem codes_flat (Y : FVec Ideal S32x640x1536 .fp8e4m3) (R : Fin 20480) (b : Fin 32) (s : Fin 640) (hb : b.val = R.val / 640) (hs : s.val = R.val % 640) (k : Fin 1536) :
    k0_pay2 Y (ix2 R k) = Y (ix3 b s k) := by
  have h1 : R.val / 640 < 32 := by omega
  have h2 : R.val % 640 < 640 := by omega
  obtain rfl : b = ⟨_, h1⟩ := Fin.ext hb
  obtain rfl : s = ⟨_, h2⟩ := Fin.ext hs
  pointwise [k0_pay2]

/-- The base product, scaled by the row's scale and the column's. -/
theorem base_apply (X : Vec Ideal S32x640x1536 .bf16) (W : Vec Ideal S8960x1536 .fp8e4m3) (WS : Vec Ideal S8960 .f32) (b : Fin 32) (s : Fin 640) (n : Fin 8960) :
    k0_pay7 X W WS (ix3 b s n) = (∑ k, k0_pay6 X (ix3 b s k) * W (ix2 n k)) * k0_pay5 X (ix2 b s) * WS (ix1 n) := by
  rw [k0_pay7]
  generalize k0_pay6 X = e
  generalize k0_pay5 X = e'
  pointwise

theorem xr_apply (X : Vec Ideal S32x640x1536 .bf16) (b : Fin 32) (s : Fin 640) (p : Fin 12) (q : Fin 128) :
    k0_pay8 X (ix4 b s p q) = k0_pay6 X (ix3 b s ⟨p.val * 128 + q.val, by omega⟩) := by
  rw [k0_pay8]
  generalize k0_pay6 X = e
  pointwise

/-- The result `y` from the base and the adapter's two products. -/
theorem y_aux (sc : FVec Ideal S32x640 .f32) (base : FVec Ideal S32x640x8960 .f32) (xr : FVec Ideal S32x640x12x128 .bf16) (D : Vec Ideal S448x128 .bf16)
    (C : Vec Ideal S20x12 .bf16) (R : Fin 20480) (n : Fin 8960) (b : Fin 32) (s : Fin 640) (a : Fin 20) (o : Fin 448)
    (hb : b.val = R.val / 640) (hs : s.val = R.val % 640) (ha : a.val = n.val / 448) (ho : o.val = n.val % 448) :
    k0_pay1 sc base xr D (constant S32x640x12x448 .f32 0x00000000#32) C (ix2 R n) = base (ix3 b s n)
      + Ideal.ofBits .f32 0x3F000000#32 * sc (ix2 b s) * ∑ p, (∑ q, xr (ix4 b s p q) * D (ix2 o q)) * C (ix2 a p) := by
  have h1 : R.val / 640 < 32 := by omega
  have h2 : R.val % 640 < 640 := by omega
  obtain rfl : b = ⟨_, h1⟩ := Fin.ext hb
  obtain rfl : s = ⟨_, h2⟩ := Fin.ext hs
  have h3 : n.val / 448 < 20 := by omega
  have h4 : n.val % 448 < 448 := by omega
  obtain rfl : a = ⟨_, h3⟩ := Fin.ext ha
  obtain rfl : o = ⟨_, h4⟩ := Fin.ext ho
  pointwise [k0_pay1]

end Cert.Body.Ref

end
-- ==== Proof.Body.IdMath.lean ====
module

public import proofs.«01_k».proof.Proof.Body.IdCodes
public import proofs.«01_k».proof.Proof.Body.Quant

@[expose] public section

set_option maxRecDepth 16384

noncomputable section

namespace Cert.Body

open Idealize.ShloMosaic

/-! ## The two facts about real numbers the results need -/

/-- The largest finite bf16. -/
theorem ofBits_max : Ideal.ofBits .bf16 0x7F7F#16 = ((255 * 2 ^ 120 : ℝ) : EReal) := by
  simp [Ideal.ofBits, Ideal.ieee, -EReal.coe_mul]

/-- The printed `1 / 448`. -/
theorem ofBits_inv448 : Ideal.ofBits .f32 0x3B124925#32 = ((9586981 / 2 ^ 32 : ℝ) : EReal) := by
  simp [Ideal.ofBits, Ideal.ieee, -EReal.coe_mul]; norm_num

theorem ofBits_bot : Ideal.ofBits .bf16 0xFF80#16 = ⊥ := by
  simp [Ideal.ofBits, Ideal.ieee]

/-- The quantity the scale is read off is a real number below `2 ^ 120` when the row is finite. -/
theorem qOf_bound (f : Fin 1536 → EReal) (h : ∀ k, max (f k) (-(f k)) ≤ Ideal.ofBits .bf16 0x7F7F#16) :
    ∃ q : ℝ, q < (2 : ℝ) ^ (120 : ℤ) ∧ qOf f = q := by
  rw [ofBits_max] at h
  unfold qOf
  rw [ofBits_bot, ofBits_inv448]
  have hle : Finset.fold max ⊥ (fun k => max (f k) (-(f k))) Finset.univ ≤ ((255 * 2 ^ 120 : ℝ) : EReal) :=
    Finset.fold_max_le _ |>.mpr ⟨bot_le, fun k _ => h k⟩
  have hge : (0 : EReal) ≤ Finset.fold max ⊥ (fun k => max (f k) (-(f k))) Finset.univ := by
    refine Finset.le_fold_max _ |>.mpr (.inr ⟨0, Finset.mem_univ _, ?_⟩)
    rcases le_total 0 (f 0) with h0 | h0
    · exact le_max_of_le_left h0
    · exact le_max_of_le_right (EReal.neg_nonneg.mpr h0)
  generalize Finset.fold max ⊥ (fun k => max (f k) (-(f k))) Finset.univ = M at hle hge
  induction M with
  | bot => exact absurd hge (by simp)
  | top => exact absurd hle (by simp [-EReal.coe_mul])
  | coe v =>
    refine ⟨v * (9586981 / 2 ^ 32), ?_, (EReal.coe_mul _ _).symm⟩
    have hv : v ≤ 255 * 2 ^ 120 := EReal.coe_le_coe_iff.mp hle
    calc v * (9586981 / 2 ^ 32) ≤ (255 * 2 ^ 120) * (9586981 / 2 ^ 32) := by gcongr
      _ < (2 : ℝ) ^ (120 : ℤ) := by norm_num

/-- A nonnegative real factor comes out of a sum. -/
theorem sum_factor {n : ℕ} (s : Finset (Fin n)) (r : ℝ) (hr : 0 ≤ r) (f : Fin n → EReal) : ∑ p ∈ s, (r : EReal) * f p = (r : EReal) * ∑ p ∈ s, f p := by
  classical
  induction s using Finset.induction_on with
  | empty => simp
  | insert a s ha ih =>
    rw [Finset.sum_insert ha, Finset.sum_insert ha, ih, EReal.left_distrib_of_nonneg_of_ne_top (by exact_mod_cast hr) (EReal.coe_ne_top r)]

/-- Scaling the base product and the adapter together, and scaling each, are the same. -/
theorem combine (A ws : EReal) (s : ℝ) (hs : 0 < s) (f g : Fin 12 → EReal) :
    (A * ws + ∑ p, Ideal.ofBits .f32 0x3F000000#32 * f p * g p) * (s : EReal)
      = A * (s : EReal) * ws + Ideal.ofBits .f32 0x3F000000#32 * (s : EReal) * ∑ p, g p * f p := by
  rw [ofBits_half]
  have e : ∑ p, ((1 / 2 : ℝ) : EReal) * f p * g p = ((1 / 2 : ℝ) : EReal) * ∑ p, g p * f p := by
    rw [← sum_factor _ _ (by norm_num)]
    exact Finset.sum_congr rfl fun p _ => by rw [mul_assoc, mul_comm (f p)]
  rw [e, mul_comm _ (s : EReal), EReal.left_distrib_of_nonneg_of_ne_top (by exact_mod_cast hs.le) (EReal.coe_ne_top s)]
  congr 1
  · rw [← mul_assoc, mul_comm (s : EReal) A]
  · rw [← mul_assoc, mul_comm (s : EReal)]

end Cert.Body

end
-- ==== Proof.Body.IdEq.lean ====
module

public import proofs.«01_k».proof.Proof.Body.Final
public import proofs.«01_k».proof.Proof.Body.IdU
public import proofs.«01_k».proof.Proof.Body.IdRef
public import proofs.«01_k».proof.Proof.Body.IdMath

@[expose] public section

set_option maxRecDepth 16384

noncomputable section

namespace Cert.Body

open Cert.KernelIdeal Cert.KernelIdeal.Gen
open Idealize.ShloMosaic Idealize.ShloMosaic.TcCoe Idealize.ShloMosaic.Tactic

variable (m : (ℓ : Loc nD τ sig) → Buf (Elt Ideal) ℓ)

/-! ## The kernel's results are the reference's -/

/-- The kernel's `x`. -/
abbrev xA (c : Dev nD) : Vec Ideal S32x640x1536 .bf16 := m ((c : Thread nD τ).loc main_arg0)
/-- The kernel's codes of the weights. -/
abbrev wA (c : Dev nD) : Vec Ideal S8960x1536 .fp8e4m3 := m ((c : Thread nD τ).loc main_arg1)
/-- The kernel's scales of the weights. -/
abbrev wsA (c : Dev nD) : Vec Ideal S8960 .f32 := m ((c : Thread nD τ).loc main_arg2)
/-- The adapter's small factor. -/
abbrev cA (c : Dev nD) : Vec Ideal S20x12 .bf16 := m ((c : Thread nD τ).loc main_arg3)
/-- The adapter's large factor. -/
abbrev dA (c : Dev nD) : Vec Ideal S448x128 .bf16 := m ((c : Thread nD τ).loc main_arg4)

theorem rows_apply (X : Vec Ideal S32x640x1536 .bf16) (R : Fin 20480) (k : Fin 1536) (b : Fin 32) (s : Fin 640) (hb : b.val = R.val / 640) (hs : s.val = R.val % 640) :
    shapeCast S20480x1536 X shapeCasts_S32x640x1536_S20480x1536 (ix2 R k) = X (ix3 b s k) := by
  have h1 : R.val / 640 < 32 := by omega
  have h2 : R.val % 640 < 640 := by omega
  obtain rfl : b = ⟨_, h1⟩ := Fin.ext hb
  obtain rfl : s = ⟨_, h2⟩ := Fin.ext hs
  pointwise

theorem ws_apply (WS : Vec Ideal S8960 .f32) (n : Fin 8960) : shapeCast S1x8960 WS shapeCasts_S8960_S1x8960 (ix2 0 n) = WS (ix1 n) := by
  pointwise

/-- Row `r` of the block of point `t`: the row of `x` it is. -/
theorem iblk_row (c : Dev nD) (t : Fin cfg0.N) (r : Fin 256) (b : Fin 32) (s : Fin 640) (h : 640 * b.val + s.val = 256 * t.val + r.val) (k : Fin 1536) :
    (iblk m c 0 t : Vec Ideal S256x1536 .bf16) (ix2 r k) = xA m c (ix3 b s k) := by
  rw [iblk0_apply m c t r k ⟨640 * b.val + s.val, by omega⟩ h, V_main_v0]
  exact rows_apply (xA m c) _ k b s (by show b.val = (640 * b.val + s.val) / 640; omega) (by show s.val = (640 * b.val + s.val) % 640; omega)

/-- Every entry of `x` is finite. -/
def XFin (X : Vec Ideal S32x640x1536 .bf16) : Prop := ∀ j, max (X j) (-(X j)) ≤ Ideal.ofBits .bf16 0x7F7F#16

theorem XFin.row {X : Vec Ideal S32x640x1536 .bf16} (hX : XFin X) (b : Fin 32) (s : Fin 640) :
    ∃ q : ℝ, q < (2 : ℝ) ^ (120 : ℤ) ∧ qOf (fun k => X (ix3 b s k)) = q :=
  qOf_bound _ fun k => hX _

/-- The kernel's code of an entry is the reference's. -/
theorem codes_entry (c : Dev nD) (hX : XFin (xA m c)) (t : Fin cfg0.N) (r : Fin 256) (b : Fin 32) (s : Fin 640) (h : 640 * b.val + s.val = 256 * t.val + r.val) (k : Fin 1536) :
    codesV (iblk m c 0 t : Vec Ideal S256x1536 .bf16) (ix2 r k) = Cert.ReferenceIdeal.Gen.k0_pay6 (xA m c) (ix3 b s k) := by
  obtain ⟨q, hq, e⟩ := hX.row b s
  rw [codesV_apply, Ref.codes_apply]
  simp only [iblk_row m c t r b s h]
  rw [e, inv_eq q hq]

/-- The kernel's scale of a row is the reference's. -/
theorem scale_entry (c : Dev nD) (hX : XFin (xA m c)) (b : Fin 32) (s : Fin 640) :
    kscale (qOf (fun k => xA m c (ix3 b s k))) = Cert.ReferenceIdeal.Gen.k0_pay5 (xA m c) (ix2 b s) := by
  obtain ⟨q, hq, e⟩ := hX.row b s
  rw [Ref.scale_apply, e, scale_eq q hq]

/-- The codes the kernel returns are the reference's. -/
theorem G6_eq (c : Dev nD) (hX : XFin (xA m c)) : G6 m c = Cert.ReferenceIdeal.Value.G6 (xA m c) (wA m c) (wsA m c) (cA m c) (dA m c) := by
  funext i
  obtain ⟨R, k, rfl⟩ : ∃ (R : Fin 20480) (k : Fin 1536), i = ix2 (n0 := 20480) (n1 := 1536) R k := ⟨_, _, (ix2_eta i).symm⟩
  refine (codes_entry m c hX (tOf R) (rIn R) ⟨R.val / 640, by omega⟩ ⟨R.val % 640, by omega⟩ ?_ k).trans ?_
  · show 640 * (R.val / 640) + R.val % 640 = 256 * (R.val / 256) + R.val % 256; omega
  · exact (Ref.codes_flat _ R _ _ rfl rfl k).symm

/-- The reference's scales, its load of the whole array read off. -/
theorem pay9_eq (X : Vec Ideal S32x640x1536 .bf16) (W : Vec Ideal S8960x1536 .fp8e4m3) (WS : Vec Ideal S8960 .f32) (C : Vec Ideal S20x12 .bf16) (D : Vec Ideal S448x128 .bf16) :
    Cert.ReferenceIdeal.Gen.k0_pay9 X W WS C D = Cert.ReferenceIdeal.Gen.k0_pay5 X := by
  unfold Cert.ReferenceIdeal.Gen.k0_pay9
  exact congrArg _ (View.ld_unit_zero (S := S32x640x1536) Cert.ReferenceIdeal.Value.hz0 _ X)

/-- A row of scales holds its rows' scales. -/
theorem rowOf_eq (c : Dev nD) (hX : XFin (xA m c)) (r : Fin 160) (l : Fin 128) (b : Fin 32) (s : Fin 640) (h : 640 * b.val + s.val = 128 * r.val + l.val) :
    rowOf m c r l = Cert.ReferenceIdeal.Gen.k0_pay5 (xA m c) (ix2 b s) := by
  rw [← scale_entry m c hX]
  unfold rowOf
  split
  · rename_i h2
    refine (scaleRow0_apply _ l ⟨l.val, by omega⟩ rfl).trans (congrArg kscale (congrArg qOf (funext fun k => ?_)))
    exact iblk_row m c (tRow r) _ b s (by show 640 * b.val + s.val = 256 * (r.val / 2) + l.val; omega) k
  · rename_i h2
    refine (scaleRow1_apply _ l ⟨128 + l.val, by omega⟩ rfl).trans (congrArg kscale (congrArg qOf (funext fun k => ?_)))
    exact iblk_row m c (tRow r) _ b s (by show 640 * b.val + s.val = 256 * (r.val / 2) + (128 + l.val); omega) k

/-- The scales the kernel returns are the reference's. -/
theorem G7_eq (c : Dev nD) (hX : XFin (xA m c)) : G7 m c = Cert.ReferenceIdeal.Value.G7 (xA m c) (wA m c) (wsA m c) (cA m c) (dA m c) := by
  refine Eq.trans ?_ (pay9_eq _ _ _ _ _).symm
  funext i
  obtain ⟨b, s, rfl⟩ : ∃ (b : Fin 32) (s : Fin 640), i = ix2 (n0 := 32) (n1 := 640) b s := ⟨_, _, (ix2_eta i).symm⟩
  exact rowOf_eq m c hX _ _ b s (by show 640 * b.val + s.val = 128 * (5 * b.val + s.val / 128) + s.val % 128; omega)

/-- The value of `y` the kernel computes is the reference's. -/
theorem y_entry (c : Dev nD) (hX : XFin (xA m c)) (t : Fin cfg0.N) (r : Fin 256) (R : Fin 20480) (h : R.val = 256 * t.val + r.val) (n : Fin 8960) :
    yOf (iblk m c 0 t : Vec Ideal S256x1536 .bf16) (wA m c) (shapeCast S1x8960 (wsA m c) shapeCasts_S8960_S1x8960) (cA m c) (dA m c) r n
      = Cert.ReferenceIdeal.Value.G5 (xA m c) (wA m c) (wsA m c) (cA m c) (dA m c) (ix2 R n) := by
  have hR : 640 * (R.val / 640) + R.val % 640 = 256 * t.val + r.val := by omega
  refine Eq.trans ?_ (Ref.y_aux _ _ _ _ _ R n ⟨R.val / 640, by omega⟩ ⟨R.val % 640, by omega⟩ ⟨n.val / 448, by omega⟩ ⟨n.val % 448, by omega⟩ rfl rfl rfl rfl).symm
  obtain ⟨q, hq, e⟩ := hX.row ⟨R.val / 640, by omega⟩ ⟨R.val % 640, by omega⟩
  obtain ⟨s, hs, e'⟩ := scale_pos q hq
  have hsc : Cert.ReferenceIdeal.Gen.k0_pay5 (xA m c) (ix2 ⟨R.val / 640, by omega⟩ ⟨R.val % 640, by omega⟩) = (s : EReal) := by
    rw [Ref.scale_apply, e, e']
  rw [pay9_eq, Ref.base_apply, hsc]
  unfold yOf Un
  simp only [codes_entry m c hX t r ⟨R.val / 640, by omega⟩ ⟨R.val % 640, by omega⟩ hR, ws_apply]
  rw [scaleV_apply]
  simp only [iblk_row m c t r ⟨R.val / 640, by omega⟩ ⟨R.val % 640, by omega⟩ hR]
  rw [scale_entry m c hX, hsc, combine _ _ s hs]
  refine congrArg₂ (fun a b : EReal => a + b) (congrArg (fun z : EReal => _ * z) (ws_apply (wsA m c) n))
    (congrArg (fun z : EReal => Ideal.ofBits .f32 0x3F000000#32 * (s : EReal) * z) (Finset.sum_congr rfl fun p _ => ?_))
  refine congrArg₂ (fun a b : EReal => a * b) ?_ ?_
  · unfold Tn
    refine Finset.sum_congr rfl fun q _ => ?_
    rw [Ref.xr_apply]
    refine congrArg₂ (fun a b : EReal => a * b) ?_ ?_
    · exact congrArg (fun z : Fin 1536 => Cert.ReferenceIdeal.Gen.k0_pay6 (xA m c) (ix3 _ _ z)) (Fin.ext (by show 128 * p.val + q.val = p.val * 128 + q.val; omega))
    · unfold dn; rw [dif_pos (by omega : n.val % 448 < 448)]
  · unfold cn; rw [dif_pos (by omega : n.val / 448 < 20)]

/-- The `y` the kernel returns is the reference's. -/
theorem G5_eq (c : Dev nD) (hX : XFin (xA m c)) : G5 m c = Cert.ReferenceIdeal.Value.G5 (xA m c) (wA m c) (wsA m c) (cA m c) (dA m c) := by
  funext i
  obtain ⟨R, n, rfl⟩ : ∃ (R : Fin 20480) (n : Fin 8960), i = ix2 (n0 := 20480) (n1 := 8960) R n := ⟨_, _, (ix2_eta i).symm⟩
  refine Eq.trans ?_ (y_entry m c hX (tOf R) (rIn R) R (by show R.val = 256 * (R.val / 256) + R.val % 256; omega) n)
  show yC m c (tOf R) (ix2 (rIn R) n) = _
  unfold yC
  refine (Y_apply _ _ _ _ _ (rIn R) n).trans ?_
  rw [iblk1_eq, iblk2_eq, iblk3_eq, iblk4_eq, V_main_arg1, V_main_v1, V_main_arg3, V_main_arg4]

end Cert.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite
public import proofs.«01_k».proof.Proof.KFrame.Frame
public import proofs.«01_k».proof.Proof.Body.Data
public import proofs.«01_k».proof.Proof.Body.IdEq
public import Idealize.ShloMosaic.Adequacy
public import Idealize.ShloMosaic.Init

@[expose] public section

noncomputable section

namespace Cert.Proof

open Idealize.ShloMosaic Idealize.SL.Sem Cert.Kernel

/-- The precondition, read: every entry of the kernel's `x` is finite. -/
theorem finite_of_pre (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) : Cert.Body.XFin (Cert.Body.xA m c) :=
  fun j => (Ideal.cmp_ole_eq_one _ _).mp (congrFun (h c) j)

/-- From a finite `x`, the kernel and the reference run and leave the same three results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hX := finite_of_pre m hpre
  refine ⟨Cert.Body.G5 m, Cert.Body.G6 m, Cert.Body.G7 m, Cert.Body.run m g, ?_⟩
  refine (θ_run _ _ _).mono (fun r h c => ?_) (Cert.ReferenceIdeal.Value.run m' g')
  obtain ⟨h0, h1, h2, hrest⟩ := h c
  obtain ⟨e0, e1, e2, e3, e4⟩ := hargs c
  refine ⟨h0.trans ?_, h1.trans ?_, h2.trans ?_, hrest⟩
  · rw [Cert.Body.G5_eq m c (hX c)]; exact congr (congr (congr (congr (congrArg (Cert.ReferenceIdeal.Value.G5 (F := Ideal)) e0) e1) e2) e3) e4
  · rw [Cert.Body.G6_eq m c (hX c)]; exact congr (congr (congr (congr (congrArg (Cert.ReferenceIdeal.Value.G6 (F := Ideal)) e0) e1) e2) e3) e4
  · rw [Cert.Body.G7_eq m c (hX c)]; exact congr (congr (congr (congr (congrArg (Cert.ReferenceIdeal.Value.G7 (F := Ideal)) e0) e1) e2) e3) e4

/-- All the claims. -/
theorem claim : Cert.Claim := ⟨Cert.Kernel.Gen.facts, Cert.KernelIdeal.Gen.facts, Cert.ReferenceIdeal.Gen.facts, Cert.Pre_finite.Gen.facts,
  fun m ρ _ => Cert.KFrame.frame m ρ,
  fun m ρ _ => Cert.Body.frame m ρ,
  fun m ρ _ => Cert.Body.frame m ρ,
  fun m ρ _ => Cert.ReferenceIdeal.Gen.frame m ρ,
  fun m ρ _ => Cert.ReferenceIdeal.Gen.frame m ρ,
  trivial,
  algebraic⟩

end Cert.Proof

end
